-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v128_11) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_v179) = v4 c
          ∧ r.2.mem ((c.tc : Thread Cert.ReferenceIdeal.nD Cert.ReferenceIdeal.τ).loc Cert.ReferenceIdeal.main_v180) = v5 c
          ∧ r.2.mem ((c.tc : Thread Cert.ReferenceIdeal.nD Cert.ReferenceIdeal.τ).loc Cert.ReferenceIdeal.main_v204) = v6 c
          ∧ r.2.mem ((c.tc : Thread Cert.ReferenceIdeal.nD Cert.ReferenceIdeal.τ).loc Cert.ReferenceIdeal.main_v205) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x10x256 : Shape := ⟨4, ![2, 1024, 10, 256]⟩
abbrev S2x1024x10x512 : Shape := ⟨4, ![2, 1024, 10, 512]⟩
abbrev S2x10x256x512 : Shape := ⟨4, ![2, 10, 256, 512]⟩
abbrev S2x10x1024x256 : Shape := ⟨4, ![2, 10, 1024, 256]⟩
abbrev S2x10x1024x512 : Shape := ⟨4, ![2, 10, 1024, 512]⟩
abbrev S2x1024x5120 : Shape := ⟨3, ![2, 1024, 5120]⟩
abbrev S10x2x1024 : Shape := ⟨3, ![10, 2, 1024]⟩
abbrev S2x1x1024x256 : Shape := ⟨4, ![2, 1, 1024, 256]⟩
abbrev S2x1x1024x512 : Shape := ⟨4, ![2, 1, 1024, 512]⟩
abbrev S2x1x256x512 : Shape := ⟨4, ![2, 1, 256, 512]⟩
abbrev S2x1024x512 : Shape := ⟨3, ![2, 1024, 512]⟩
abbrev S1x2x1024 : Shape := ⟨3, ![1, 2, 1024]⟩
abbrev S2x256x512 : Shape := ⟨3, ![2, 256, 512]⟩
abbrev S128x128 : Shape := ⟨2, ![128, 128]⟩
abbrev S128x1 : Shape := ⟨2, ![128, 1]⟩
abbrev S8x128 : Shape := ⟨2, ![8, 128]⟩
abbrev S1x1 : Shape := ⟨2, ![1, 1]⟩
abbrev S1x1x256x512 : Shape := ⟨4, ![1, 1, 256, 512]⟩
abbrev S256x512 : Shape := ⟨2, ![256, 512]⟩
abbrev S1x256x512 : Shape := ⟨3, ![1, 256, 512]⟩
abbrev S1x1x128x256 : Shape := ⟨4, ![1, 1, 128, 256]⟩
abbrev S128x256 : Shape := ⟨2, ![128, 256]⟩
abbrev S128 : Shape := ⟨1, ![128]⟩
abbrev S1x1x128x512 : Shape := ⟨4, ![1, 1, 128, 512]⟩
abbrev S128x512 : Shape := ⟨2, ![128, 512]⟩
abbrev S1x128 : Shape := ⟨2, ![1, 128]⟩
abbrev S1x1x128 : Shape := ⟨3, ![1, 1, 128]⟩
abbrev S1x128x512 : Shape := ⟨3, ![1, 128, 512]⟩

abbrev nBuf : Space → Nat
  | .hbm => 15
  | .vmem => 26
  | .smem => 0
  | _ => 0

abbrev bufTy : (tb : Table) → Fin (tcTables nBuf tb) → BufTy
  | .hbm, ⟨0, _⟩ => ⟨S2x1024x10x256, .bf16⟩
  | .hbm, ⟨1, _⟩ => ⟨S2x1024x10x256, .bf16⟩
  | .hbm, ⟨2, _⟩ => ⟨S2x1024x10x512, .bf16⟩
  | .hbm, ⟨3, _⟩ => ⟨S2x10x256x512, .f32⟩
  | .hbm, ⟨4, _⟩ => ⟨S2x10x1024x256, .bf16⟩
  | .hbm, ⟨5, _⟩ => ⟨S2x10x1024x256, .bf16⟩
  | .hbm, ⟨6, _⟩ => ⟨S2x10x1024x512, .bf16⟩
  | .hbm, ⟨7, _⟩ => ⟨S2x1024x5120, .bf16⟩
  | .hbm, ⟨8, _⟩ => ⟨S2x10x256x512, .f32⟩
  | .hbm, ⟨9, _⟩ => ⟨S2x10x1024x256, .fp8e4m3⟩
  | .hbm, ⟨10, _⟩ => ⟨S10x2x1024, .f32⟩
  | .hbm, ⟨11, _⟩ => ⟨S2x10x1024x256, .fp8e4m3⟩
  | .hbm, ⟨12, _⟩ => ⟨S10x2x1024, .f32⟩
  | .hbm, ⟨13, _⟩ => ⟨S2x10x1024x512, .fp8e4m3⟩
  | .hbm, ⟨14, _⟩ => ⟨S10x2x1024, .f32⟩
  | .local _ .vmem, ⟨0, _⟩ => ⟨S2x1x1024x256, .bf16⟩
  | .local _ .vmem, ⟨1, _⟩ => ⟨S2x1x1024x256, .bf16⟩
  | .local _ .vmem, ⟨2, _⟩ => ⟨S2x1x1024x256, .bf16⟩
  | .local _ .vmem, ⟨3, _⟩ => ⟨S2x1x1024x256, .bf16⟩
  | .local _ .vmem, ⟨4, _⟩ => ⟨S2x1x1024x512, .bf16⟩
  | .local _ .vmem, ⟨5, _⟩ => ⟨S2x1x1024x512, .bf16⟩
  | .local _ .vmem, ⟨6, _⟩ => ⟨S2x1x256x512, .f32⟩
  | .local _ .vmem, ⟨7, _⟩ => ⟨S2x1x256x512, .f32⟩
  | .local _ .vmem, ⟨8, _⟩ => ⟨S2x1024x512, .bf16⟩
  | .local _ .vmem, ⟨9, _⟩ => ⟨S2x1024x512, .bf16⟩
  | .local _ .vmem, ⟨10, _⟩ => ⟨S2x1x256x512, .f32⟩
  | .local _ .vmem, ⟨11, _⟩ => ⟨S2x1x256x512, .f32⟩
  | .local _ .vmem, ⟨12, _⟩ => ⟨S2x1x1024x256, .fp8e4m3⟩
  | .local _ .vmem, ⟨13, _⟩ => ⟨S2x1x1024x256, .fp8e4m3⟩
  | .local _ .vmem, ⟨14, _⟩ => ⟨S1x2x1024, .f32⟩
  | .local _ .vmem, ⟨15, _⟩ => ⟨S1x2x1024, .f32⟩
  | .local _ .vmem, ⟨16, _⟩ => ⟨S2x1x1024x256, .fp8e4m3⟩
  | .local _ .vmem, ⟨17, _⟩ => ⟨S2x1x1024x256, .fp8e4m3⟩
  | .local _ .vmem, ⟨18, _⟩ => ⟨S1x2x1024, .f32⟩
  | .local _ .vmem, ⟨19, _⟩ => ⟨S1x2x1024, .f32⟩
  | .local _ .vmem, ⟨20, _⟩ => ⟨S2x1x1024x512, .fp8e4m3⟩
  | .local _ .vmem, ⟨21, _⟩ => ⟨S2x1x1024x512, .fp8e4m3⟩
  | .local _ .vmem, ⟨22, _⟩ => ⟨S1x2x1024, .f32⟩
  | .local _ .vmem, ⟨23, _⟩ => ⟨S1x2x1024, .f32⟩
  | .local _ .vmem, ⟨24, _⟩ => ⟨S2x256x512, .f32⟩
  | .local _ .vmem, ⟨25, _⟩ => ⟨S128x128, .f32⟩
  | _, _ => ⟨S2x1024x10x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x1024x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x1024x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2x1024x10x256 : Shape := ⟨4, ![2, 1024, 10, 256]⟩
abbrev S2x1024x10x512 : Shape := ⟨4, ![2, 1024, 10, 512]⟩
abbrev S2x10x256x512 : Shape := ⟨4, ![2, 10, 256, 512]⟩
abbrev S_ : Shape := ⟨0, ![]⟩
abbrev S2x1024x10 : Shape := ⟨3, ![2, 1024, 10]⟩
abbrev S2x1024x10x1 : Shape := ⟨4, ![2, 1024, 10, 1]⟩
abbrev S1 : Shape := ⟨1, ![1]⟩
abbrev S10 : Shape := ⟨1, ![10]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S10x1x1 : Shape := ⟨3, ![10, 1, 1]⟩
abbrev S10x128x128 : Shape := ⟨3, ![10, 128, 128]⟩
abbrev S1x10 : Shape := ⟨2, ![1, 10]⟩
abbrev S128x10 : Shape := ⟨2, ![128, 10]⟩
abbrev S10x128 : Shape := ⟨2, ![10, 128]⟩
abbrev S2x8x128x10x256 : Shape := ⟨5, ![2, 8, 128, 10, 256]⟩
abbrev S8x2x10x128x256 : Shape := ⟨5, ![8, 2, 10, 128, 256]⟩
abbrev S2x8x128x10x512 : Shape := ⟨5, ![2, 8, 128, 10, 512]⟩
abbrev S8x2x10x128x512 : Shape := ⟨5, ![8, 2, 10, 128, 512]⟩
abbrev S2x8x128x10 : Shape := ⟨4, ![2, 8, 128, 10]⟩
abbrev S8x2x10x128 : Shape := ⟨4, ![8, 2, 10, 128]⟩
abbrev S8x2x128x10x512 : Shape := ⟨5, ![8, 2, 128, 10, 512]⟩
abbrev S1x2x10x128x256 : Shape := ⟨5, ![1, 2, 10, 128, 256]⟩
abbrev S2x10x128x256 : Shape := ⟨4, ![2, 10, 128, 256]⟩
abbrev S1x2x10x128x512 : Shape := ⟨5, ![1, 2, 10, 128, 512]⟩
abbrev S2x10x128x512 : Shape := ⟨4, ![2, 10, 128, 512]⟩
abbrev S1x2x10x128 : Shape := ⟨4, ![1, 2, 10, 128]⟩
abbrev S2x10x128 : Shape := ⟨3, ![2, 10, 128]⟩
abbrev S2x10x128x128 : Shape := ⟨4, ![2, 10, 128, 128]⟩
abbrev S2x10x128x1 : Shape := ⟨4, ![2, 10, 128, 1]⟩
abbrev S2x10x1x128 : Shape := ⟨4, ![2, 10, 1, 128]⟩
abbrev S1x10x128x128 : Shape := ⟨4, ![1, 10, 128, 128]⟩
abbrev S1x10x128 : Shape := ⟨3, ![1, 10, 128]⟩
abbrev S10x128x1 : Shape := ⟨3, ![10, 128, 1]⟩
abbrev S1x10x128x1 : Shape := ⟨4, ![1, 10, 128, 1]⟩
abbrev S2x128x10x512 : Shape := ⟨4, ![2, 128, 10, 512]⟩
abbrev S1x10x1x1 : Shape := ⟨4, ![1, 10, 1, 1]⟩
abbrev S1x2x128x10x512 : Shape := ⟨5, ![1, 2, 128, 10, 512]⟩
abbrev S2x1024x5120 : Shape := ⟨3, ![2, 1024, 5120]⟩
abbrev S2x10x1024x256 : Shape := ⟨4, ![2, 10, 1024, 256]⟩
abbrev S10x2x1024 : Shape := ⟨3, ![10, 2, 1024]⟩
abbrev S2x10x1024x512 : Shape := ⟨4, ![2, 10, 1024, 512]⟩

abbrev nBuf : Space → Nat
  | .hbm => 450
  | .vmem => 0
  | .smem => 0
  | _ => 0

abbrev hbmTy0_0 (i : Nat) : BufTy := match i % 128 with
  | 0 => ⟨S2x1024x10x256, .bf16⟩
  | 1 => ⟨S2x1024x10x256, .bf16⟩
  | 2 => ⟨S2x1024x10x512, .bf16⟩
  | 3 => ⟨S2x10x256x512, .f32⟩
  | 4 => ⟨S2x1024x10x256, .f32⟩
  | 5 => ⟨S2x1024x10x256, .f32⟩
  | 6 => ⟨S_, .f32⟩
  | 7 => ⟨S2x1024x10, .f32⟩
  | 8 => ⟨S_, .f32⟩
  | 9 => ⟨S2x1024x10, .f32⟩
  | 10 => ⟨S_, .f32⟩
  | 11 => ⟨S2x1024x10, .f32⟩
  | 12 => ⟨S2x1024x10, .f32⟩
  | 13 => ⟨S2x1024x10, .f32⟩
  | 14 => ⟨S2x1024x10, .f32⟩
  | 15 => ⟨S2x1024x10, .f32⟩
  | 16 => ⟨S2x1024x10, .f32⟩
  | 17 => ⟨S_, .f32⟩
  | 18 => ⟨S2x1024x10, .f32⟩
  | 19 => ⟨S2x1024x10, .f32⟩
  | 20 => ⟨S_, .f32⟩
  | 21 => ⟨S2x1024x10, .f32⟩
  | 22 => ⟨S2x1024x10, .i1⟩
  | 23 => ⟨S_, .f32⟩
  | 24 => ⟨S_, .f32⟩
  | 25 => ⟨S2x1024x10, .f32⟩
  | 26 => ⟨S2x1024x10, .f32⟩
  | 27 => ⟨S2x1024x10, .f32⟩
  | 28 => ⟨S2x1024x10, .f32⟩
  | 29 => ⟨S2x1024x10, .f32⟩
  | 30 => ⟨S2x1024x10x1, .f32⟩
  | 31 => ⟨S2x1024x10x256, .f32⟩
  | 32 => ⟨S2x1024x10x256, .f32⟩
  | 33 => ⟨S_, .f32⟩
  | 34 => ⟨S_, .f32⟩
  | 35 => ⟨S_, .f32⟩
  | 36 => ⟨S2x1024x10x256, .f32⟩
  | 37 => ⟨S2x1024x10x256, .f32⟩
  | 38 => ⟨S_, .f32⟩
  | 39 => ⟨S2x1024x10x256, .f32⟩
  | 40 => ⟨S2x1024x10x256, .f32⟩
  | 41 => ⟨S2x1024x10x256, .f32⟩
  | 42 => ⟨S2x1024x10x256, .f32⟩
  | 43 => ⟨S_, .f32⟩
  | 44 => ⟨S2x1024x10, .f32⟩
  | 45 => ⟨S_, .f32⟩
  | 46 => ⟨S2x1024x10, .f32⟩
  | 47 => ⟨S_, .f32⟩
  | 48 => ⟨S2x1024x10, .f32⟩
  | 49 => ⟨S2x1024x10, .f32⟩
  | 50 => ⟨S2x1024x10, .f32⟩
  | 51 => ⟨S2x1024x10, .f32⟩
  | 52 => ⟨S2x1024x10, .f32⟩
  | 53 => ⟨S2x1024x10, .f32⟩
  | 54 => ⟨S_, .f32⟩
  | 55 => ⟨S2x1024x10, .f32⟩
  | 56 => ⟨S2x1024x10, .f32⟩
  | 57 => ⟨S_, .f32⟩
  | 58 => ⟨S2x1024x10, .f32⟩
  | 59 => ⟨S2x1024x10, .i1⟩
  | 60 => ⟨S_, .f32⟩
  | 61 => ⟨S_, .f32⟩
  | 62 => ⟨S2x1024x10, .f32⟩
  | 63 => ⟨S2x1024x10, .f32⟩
  | 64 => ⟨S2x1024x10, .f32⟩
  | 65 => ⟨S2x1024x10, .f32⟩
  | 66 => ⟨S2x1024x10, .f32⟩
  | 67 => ⟨S2x1024x10x1, .f32⟩
  | 68 => ⟨S2x1024x10x256, .f32⟩
  | 69 => ⟨S2x1024x10x256, .f32⟩
  | 70 => ⟨S_, .f32⟩
  | 71 => ⟨S_, .f32⟩
  | 72 => ⟨S_, .f32⟩
  | 73 => ⟨S2x1024x10x256, .f32⟩
  | 74 => ⟨S2x1024x10x256, .f32⟩
  | 75 => ⟨S_, .f32⟩
  | 76 => ⟨S2x1024x10x256, .f32⟩
  | 77 => ⟨S2x1024x10x256, .f32⟩
  | 78 => ⟨S2x1024x10x512, .f32⟩
  | 79 => ⟨S2x1024x10x512, .f32⟩
  | 80 => ⟨S_, .f32⟩
  | 81 => ⟨S2x1024x10, .f32⟩
  | 82 => ⟨S_, .f32⟩
  | 83 => ⟨S2x1024x10, .f32⟩
  | 84 => ⟨S_, .f32⟩
  | 85 => ⟨S2x1024x10, .f32⟩
  | 86 => ⟨S2x1024x10, .f32⟩
  | 87 => ⟨S2x1024x10, .f32⟩
  | 88 => ⟨S2x1024x10, .f32⟩
  | 89 => ⟨S2x1024x10, .f32⟩
  | 90 => ⟨S2x1024x10, .f32⟩
  | 91 => ⟨S_, .f32⟩
  | 92 => ⟨S2x1024x10, .f32⟩
  | 93 => ⟨S2x1024x10, .f32⟩
  | 94 => ⟨S_, .f32⟩
  | 95 => ⟨S2x1024x10, .f32⟩
  | 96 => ⟨S2x1024x10, .i1⟩
  | 97 => ⟨S_, .f32⟩
  | 98 => ⟨S_, .f32⟩
  | 99 => ⟨S2x1024x10, .f32⟩
  | 100 => ⟨S2x1024x10, .f32⟩
  | 101 => ⟨S2x1024x10, .f32⟩
  | 102 => ⟨S2x1024x10, .f32⟩
  | 103 => ⟨S2x1024x10, .f32⟩
  | 104 => ⟨S2x1024x10x1, .f32⟩
  | 105 => ⟨S2x1024x10x512, .f32⟩
  | 106 => ⟨S2x1024x10x512, .f32⟩
  | 107 => ⟨S_, .f32⟩
  | 108 => ⟨S_, .f32⟩
  | 109 => ⟨S_, .f32⟩
  | 110 => ⟨S2x1024x10x512, .f32⟩
  | 111 => ⟨S2x1024x10x512, .f32⟩
  | 112 => ⟨S_, .f32⟩
  | 113 => ⟨S2x1024x10x512, .f32⟩
  | 114 => ⟨S2x1024x10x512, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S1, .f32⟩
  | 126 => ⟨S1, .f32⟩
  | 127 => ⟨S1, .f32⟩
  | _ => ⟨S2x1024x10x256, .bf16⟩

abbrev hbmTy0_1 (i : Nat) : BufTy := match i % 128 with
  | 0 => ⟨S1, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S10, .f32⟩
  | 8 => ⟨S128, .f32⟩
  | 9 => ⟨S128x1, .f32⟩
  | 10 => ⟨S1x128, .f32⟩
  | 11 => ⟨S128x128, .f32⟩
  | 12 => ⟨S128x128, .f32⟩
  | 13 => ⟨S128x128, .f32⟩
  | 14 => ⟨S_, .f32⟩
  | 15 => ⟨S128x128, .f32⟩
  | 16 => ⟨S128x128, .i1⟩
  | 17 => ⟨S_, .f32⟩
  | 18 => ⟨S_, .f32⟩
  | 19 => ⟨S128x128, .f32⟩
  | 20 => ⟨S128x128, .f32⟩
  | 21 => ⟨S1x128x128, .f32⟩
  | 22 => ⟨S10x1x1, .f32⟩
  | 23 => ⟨S10x128x128, .f32⟩
  | 24 => ⟨S10x128x128, .f32⟩
  | 25 => ⟨S10x128x128, .f32⟩
  | 26 => ⟨S10x128x128, .f32⟩
  | 27 => ⟨S_, .f32⟩
  | 28 => ⟨S_, .f32⟩
  | 29 => ⟨S10x128x128, .i1⟩
  | 30 => ⟨S10x128x128, .f32⟩
  | 31 => ⟨S10x128x128, .f32⟩
  | 32 => ⟨S_, .f32⟩
  | 33 => ⟨S128, .f32⟩
  | 34 => ⟨S128, .f32⟩
  | 35 => ⟨S128x1, .f32⟩
  | 36 => ⟨S1x10, .f32⟩
  | 37 => ⟨S128x10, .f32⟩
  | 38 => ⟨S128x10, .f32⟩
  | 39 => ⟨S128x10, .f32⟩
  | 40 => ⟨S128x10, .f32⟩
  | 41 => ⟨S10x128, .f32⟩
  | 42 => ⟨S_, .f32⟩
  | 43 => ⟨S128, .f32⟩
  | 44 => ⟨S128, .f32⟩
  | 45 => ⟨S128x1, .f32⟩
  | 46 => ⟨S1x10, .f32⟩
  | 47 => ⟨S128x10, .f32⟩
  | 48 => ⟨S128x10, .f32⟩
  | 49 => ⟨S128x10, .f32⟩
  | 50 => ⟨S128x10, .f32⟩
  | 51 => ⟨S10x128, .f32⟩
  | 52 => ⟨S_, .f32⟩
  | 53 => ⟨S10, .f32⟩
  | 54 => ⟨S10, .f32⟩
  | 55 => ⟨S10, .f32⟩
  | 56 => ⟨S10x1x1, .f32⟩
  | 57 => ⟨S2x8x128x10x256, .f32⟩
  | 58 => ⟨S8x2x10x128x256, .f32⟩
  | 59 => ⟨S2x8x128x10x256, .f32⟩
  | 60 => ⟨S8x2x10x128x256, .f32⟩
  | 61 => ⟨S2x8x128x10x512, .f32⟩
  | 62 => ⟨S8x2x10x128x512, .f32⟩
  | 63 => ⟨S2x8x128x10, .f32⟩
  | 64 => ⟨S8x2x10x128, .f32⟩
  | 65 => ⟨S2x8x128x10, .f32⟩
  | 66 => ⟨S8x2x10x128, .f32⟩
  | 67 => ⟨S2x8x128x10, .f32⟩
  | 68 => ⟨S8x2x10x128, .f32⟩
  | 69 => ⟨S_, .bf16⟩
  | 70 => ⟨S8x2x128x10x512, .bf16⟩
  | 71 => ⟨S_, .i32⟩
  | 72 => ⟨S8x2x10x128x256, .f32⟩
  | 73 => ⟨S8x2x10x128x256, .f32⟩
  | 74 => ⟨S8x2x10x128x512, .f32⟩
  | 75 => ⟨S8x2x10x128, .f32⟩
  | 76 => ⟨S8x2x10x128, .f32⟩
  | 77 => ⟨S8x2x10x128, .f32⟩
  | 78 => ⟨S10x128x128, .f32⟩
  | 79 => ⟨S10x128, .f32⟩
  | 80 => ⟨S10x128, .f32⟩
  | 81 => ⟨S10x1x1, .f32⟩
  | 82 => ⟨S_, .i32⟩
  | 83 => ⟨S2x10x256x512, .f32⟩
  | 84 => ⟨S8x2x128x10x512, .bf16⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x2x10x128x256, .f32⟩
  | 92 => ⟨S2x10x128x256, .f32⟩
  | 93 => ⟨S_, .i32⟩
  | 94 => ⟨S_, .i32⟩
  | 95 => ⟨S_, .i32⟩
  | 96 => ⟨S_, .i32⟩
  | 97 => ⟨S1x2x10x128x256, .f32⟩
  | 98 => ⟨S2x10x128x256, .f32⟩
  | 99 => ⟨S_, .i32⟩
  | 100 => ⟨S_, .i32⟩
  | 101 => ⟨S_, .i32⟩
  | 102 => ⟨S_, .i32⟩
  | 103 => ⟨S1x2x10x128x512, .f32⟩
  | 104 => ⟨S2x10x128x512, .f32⟩
  | 105 => ⟨S_, .i32⟩
  | 106 => ⟨S_, .i32⟩
  | 107 => ⟨S_, .i32⟩
  | 108 => ⟨S1x2x10x128, .f32⟩
  | 109 => ⟨S2x10x128, .f32⟩
  | 110 => ⟨S_, .i32⟩
  | 111 => ⟨S_, .i32⟩
  | 112 => ⟨S_, .i32⟩
  | 113 => ⟨S1x2x10x128, .f32⟩
  | 114 => ⟨S2x10x128, .f32⟩
  | 115 => ⟨S_, .i32⟩
  | 116 => ⟨S_, .i32⟩
  | 117 => ⟨S_, .i32⟩
  | 118 => ⟨S1x2x10x128, .f32⟩
  | 119 => ⟨S2x10x128, .f32⟩
  | 120 => ⟨S2x10x128x512, .bf16⟩
  | 121 => ⟨S2x10x128, .bf16⟩
  | 122 => ⟨S2x10x128x128, .f32⟩
  | 123 => ⟨S2x10x128x1, .f32⟩
  | 124 => ⟨S2x10x128x128, .f32⟩
  | 125 => ⟨S2x10x128x128, .f32⟩
  | 126 => ⟨S2x10x1x128, .f32⟩
  | 127 => ⟨S2x10x128x128, .f32⟩
  | _ => ⟨S2x1024x10x256, .bf16⟩

abbrev hbmTy0_2 (i : Nat) : BufTy := match i % 128 with
  | 0 => ⟨S2x10x128x128, .f32⟩
  | 1 => ⟨S_, .f32⟩
  | 2 => ⟨S10x128x128, .f32⟩
  | 3 => ⟨S10x128x128, .f32⟩
  | 4 => ⟨S1x10x128x128, .f32⟩
  | 5 => ⟨S2x10x128x128, .f32⟩
  | 6 => ⟨S2x10x128x128, .f32⟩
  | 7 => ⟨S2x10x128x128, .bf16⟩
  | 8 => ⟨S2x10x1x128, .bf16⟩
  | 9 => ⟨S2x10x128x128, .bf16⟩
  | 10 => ⟨S2x10x128x128, .bf16⟩
  | 11 => ⟨S2x10x128x512, .f32⟩
  | 12 => ⟨S2x10x256x512, .bf16⟩
  | 13 => ⟨S2x10x128x256, .bf16⟩
  | 14 => ⟨S2x10x128x512, .f32⟩
  | 15 => ⟨S1x10x128, .f32⟩
  | 16 => ⟨S2x10x128, .f32⟩
  | 17 => ⟨S2x10x128, .f32⟩
  | 18 => ⟨S_, .f32⟩
  | 19 => ⟨S2x10x128, .f32⟩
  | 20 => ⟨S2x10x128, .f32⟩
  | 21 => ⟨S2x10x128x1, .f32⟩
  | 22 => ⟨S2x10x128x512, .f32⟩
  | 23 => ⟨S2x10x128x512, .f32⟩
  | 24 => ⟨S2x10x128x1, .f32⟩
  | 25 => ⟨S2x10x128x256, .f32⟩
  | 26 => ⟨S2x10x128x256, .f32⟩
  | 27 => ⟨S10x128x1, .f32⟩
  | 28 => ⟨S1x10x128x1, .f32⟩
  | 29 => ⟨S2x10x128x256, .f32⟩
  | 30 => ⟨S2x10x128x256, .f32⟩
  | 31 => ⟨S2x10x128x256, .bf16⟩
  | 32 => ⟨S2x10x128x1, .bf16⟩
  | 33 => ⟨S2x10x128x256, .bf16⟩
  | 34 => ⟨S2x10x128x256, .bf16⟩
  | 35 => ⟨S2x10x256x512, .f32⟩
  | 36 => ⟨S2x10x128x512, .f32⟩
  | 37 => ⟨S_, .f32⟩
  | 38 => ⟨S2x10x128, .f32⟩
  | 39 => ⟨S2x10x128x1, .f32⟩
  | 40 => ⟨S_, .f32⟩
  | 41 => ⟨S2x10x128x1, .f32⟩
  | 42 => ⟨S2x10x128x1, .f32⟩
  | 43 => ⟨S2x10x128x512, .f32⟩
  | 44 => ⟨S2x10x128x512, .f32⟩
  | 45 => ⟨S2x10x128x512, .f32⟩
  | 46 => ⟨S_, .f32⟩
  | 47 => ⟨S2x10x128, .f32⟩
  | 48 => ⟨S2x10x128x1, .f32⟩
  | 49 => ⟨S_, .f32⟩
  | 50 => ⟨S2x10x128x1, .f32⟩
  | 51 => ⟨S2x10x128x1, .f32⟩
  | 52 => ⟨S_, .f32⟩
  | 53 => ⟨S2x10x128x1, .f32⟩
  | 54 => ⟨S2x10x128x1, .f32⟩
  | 55 => ⟨S2x10x128x1, .f32⟩
  | 56 => ⟨S2x10x128x512, .f32⟩
  | 57 => ⟨S2x10x128x512, .f32⟩
  | 58 => ⟨S2x10x128x512, .bf16⟩
  | 59 => ⟨S2x128x10x512, .bf16⟩
  | 60 => ⟨S1x10x1x1, .f32⟩
  | 61 => ⟨S2x10x256x512, .f32⟩
  | 62 => ⟨S2x10x256x512, .f32⟩
  | 63 => ⟨S2x10x256x512, .f32⟩
  | 64 => ⟨S1x2x128x10x512, .bf16⟩
  | 65 => ⟨S_, .i32⟩
  | 66 => ⟨S_, .i32⟩
  | 67 => ⟨S_, .i32⟩
  | 68 => ⟨S_, .i32⟩
  | 69 => ⟨S8x2x128x10x512, .bf16⟩
  | 70 => ⟨S_, .i32⟩
  | 71 => ⟨S_, .i32⟩
  | 72 => ⟨S2x8x128x10x512, .bf16⟩
  | 73 => ⟨S2x1024x5120, .bf16⟩
  | 74 => ⟨S2x1024x10x256, .f32⟩
  | 75 => ⟨S2x1024x10x256, .f32⟩
  | 76 => ⟨S_, .f32⟩
  | 77 => ⟨S2x1024x10, .f32⟩
  | 78 => ⟨S_, .f32⟩
  | 79 => ⟨S2x1024x10, .f32⟩
  | 80 => ⟨S_, .f32⟩
  | 81 => ⟨S2x1024x10, .f32⟩
  | 82 => ⟨S2x1024x10, .f32⟩
  | 83 => ⟨S2x1024x10, .f32⟩
  | 84 => ⟨S2x1024x10, .f32⟩
  | 85 => ⟨S2x1024x10, .f32⟩
  | 86 => ⟨S2x1024x10, .f32⟩
  | 87 => ⟨S_, .f32⟩
  | 88 => ⟨S2x1024x10, .f32⟩
  | 89 => ⟨S2x1024x10, .f32⟩
  | 90 => ⟨S_, .f32⟩
  | 91 => ⟨S2x1024x10, .f32⟩
  | 92 => ⟨S2x1024x10, .i1⟩
  | 93 => ⟨S_, .f32⟩
  | 94 => ⟨S_, .f32⟩
  | 95 => ⟨S2x1024x10, .f32⟩
  | 96 => ⟨S2x1024x10, .f32⟩
  | 97 => ⟨S2x1024x10, .f32⟩
  | 98 => ⟨S2x1024x10, .f32⟩
  | 99 => ⟨S2x1024x10, .f32⟩
  | 100 => ⟨S2x1024x10x1, .f32⟩
  | 101 => ⟨S2x1024x10x256, .f32⟩
  | 102 => ⟨S2x1024x10x256, .f32⟩
  | 103 => ⟨S_, .f32⟩
  | 104 => ⟨S_, .f32⟩
  | 105 => ⟨S_, .f32⟩
  | 106 => ⟨S2x1024x10x256, .f32⟩
  | 107 => ⟨S2x1024x10x256, .f32⟩
  | 108 => ⟨S_, .f32⟩
  | 109 => ⟨S2x1024x10x256, .f32⟩
  | 110 => ⟨S2x1024x10x256, .f32⟩
  | 111 => ⟨S2x10x1024x256, .f32⟩
  | 112 => ⟨S2x10x1024x256, .fp8e4m3⟩
  | 113 => ⟨S10x2x1024, .f32⟩
  | 114 => ⟨S2x1024x10x256, .f32⟩
  | 115 => ⟨S2x1024x10x256, .f32⟩
  | 116 => ⟨S_, .f32⟩
  | 117 => ⟨S2x1024x10, .f32⟩
  | 118 => ⟨S_, .f32⟩
  | 119 => ⟨S2x1024x10, .f32⟩
  | 120 => ⟨S_, .f32⟩
  | 121 => ⟨S2x1024x10, .f32⟩
  | 122 => ⟨S2x1024x10, .f32⟩
  | 123 => ⟨S2x1024x10, .f32⟩
  | 124 => ⟨S2x1024x10, .f32⟩
  | 125 => ⟨S2x1024x10, .f32⟩
  | 126 => ⟨S2x1024x10, .f32⟩
  | 127 => ⟨S_, .f32⟩
  | _ => ⟨S2x1024x10x256, .bf16⟩

abbrev hbmTy0_3 (i : Nat) : BufTy := match i % 128 with
  | 0 => ⟨S2x1024x10, .f32⟩
  | 1 => ⟨S2x1024x10, .f32⟩
  | 2 => ⟨S_, .f32⟩
  | 3 => ⟨S2x1024x10, .f32⟩
  | 4 => ⟨S2x1024x10, .i1⟩
  | 5 => ⟨S_, .f32⟩
  | 6 => ⟨S_, .f32⟩
  | 7 => ⟨S2x1024x10, .f32⟩
  | 8 => ⟨S2x1024x10, .f32⟩
  | 9 => ⟨S2x1024x10, .f32⟩
  | 10 => ⟨S2x1024x10, .f32⟩
  | 11 => ⟨S2x1024x10, .f32⟩
  | 12 => ⟨S2x1024x10x1, .f32⟩
  | 13 => ⟨S2x1024x10x256, .f32⟩
  | 14 => ⟨S2x1024x10x256, .f32⟩
  | 15 => ⟨S_, .f32⟩
  | 16 => ⟨S_, .f32⟩
  | 17 => ⟨S_, .f32⟩
  | 18 => ⟨S2x1024x10x256, .f32⟩
  | 19 => ⟨S2x1024x10x256, .f32⟩
  | 20 => ⟨S_, .f32⟩
  | 21 => ⟨S2x1024x10x256, .f32⟩
  | 22 => ⟨S2x1024x10x256, .f32⟩
  | 23 => ⟨S2x10x1024x256, .f32⟩
  | 24 => ⟨S2x10x1024x256, .fp8e4m3⟩
  | 25 => ⟨S10x2x1024, .f32⟩
  | 26 => ⟨S2x1024x10x512, .f32⟩
  | 27 => ⟨S2x1024x10x512, .f32⟩
  | 28 => ⟨S_, .f32⟩
  | 29 => ⟨S2x1024x10, .f32⟩
  | 30 => ⟨S_, .f32⟩
  | 31 => ⟨S2x1024x10, .f32⟩
  | 32 => ⟨S_, .f32⟩
  | 33 => ⟨S2x1024x10, .f32⟩
  | 34 => ⟨S2x1024x10, .f32⟩
  | 35 => ⟨S2x1024x10, .f32⟩
  | 36 => ⟨S2x1024x10, .f32⟩
  | 37 => ⟨S2x1024x10, .f32⟩
  | 38 => ⟨S2x1024x10, .f32⟩
  | 39 => ⟨S_, .f32⟩
  | 40 => ⟨S2x1024x10, .f32⟩
  | 41 => ⟨S2x1024x10, .f32⟩
  | 42 => ⟨S_, .f32⟩
  | 43 => ⟨S2x1024x10, .f32⟩
  | 44 => ⟨S2x1024x10, .i1⟩
  | 45 => ⟨S_, .f32⟩
  | 46 => ⟨S_, .f32⟩
  | 47 => ⟨S2x1024x10, .f32⟩
  | 48 => ⟨S2x1024x10, .f32⟩
  | 49 => ⟨S2x1024x10, .f32⟩
  | 50 => ⟨S2x1024x10, .f32⟩
  | 51 => ⟨S2x1024x10, .f32⟩
  | 52 => ⟨S2x1024x10x1, .f32⟩
  | 53 => ⟨S2x1024x10x512, .f32⟩
  | 54 => ⟨S2x1024x10x512, .f32⟩
  | 55 => ⟨S_, .f32⟩
  | 56 => ⟨S_, .f32⟩
  | 57 => ⟨S_, .f32⟩
  | 58 => ⟨S2x1024x10x512, .f32⟩
  | 59 => ⟨S2x1024x10x512, .f32⟩
  | 60 => ⟨S_, .f32⟩
  | 61 => ⟨S2x1024x10x512, .f32⟩
  | 62 => ⟨S2x1024x10x512, .f32⟩
  | 63 => ⟨S2x10x1024x512, .f32⟩
  | 64 => ⟨S2x10x1024x512, .fp8e4m3⟩
  | 65 => ⟨S10x2x1024, .f32⟩
  | _ => ⟨S2x1024x10x256, .bf16⟩

abbrev hbmTy (i : Nat) : BufTy := match i / 128 with
  | 0 => hbmTy0_0 i
  | 1 => hbmTy0_1 i
  | 2 => hbmTy0_2 i
  | 3 => hbmTy0_3 i
  | _ => ⟨S2x1024x10x256, .bf16⟩

abbrev bufTy : (tb : Table) → Fin (tcTables nBuf tb) → BufTy
  | .hbm, ⟨i, _⟩ => hbmTy i
  | _, _ => ⟨S2x1024x10x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_cst_8 : Ref sig .tc := ⟨.hbm, 45, rfl⟩
abbrev main_v25 : Ref sig .tc := ⟨.hbm, 46, rfl⟩
abbrev main_cst_9 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_cst_11 : Ref sig .tc := ⟨.hbm, 57, rfl⟩
abbrev main_v34 : Ref sig .tc := ⟨.hbm, 58, rfl⟩
abbrev main_v35 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_13 : Ref sig .tc := ⟨.hbm, 70, rfl⟩
abbrev main_cst_14 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_15 : Ref sig .tc := ⟨.hbm, 80, rfl⟩
abbrev main_v46 : Ref sig .tc := ⟨.hbm, 81, rfl⟩
abbrev main_cst_16 : Ref sig .tc := ⟨.hbm, 82, rfl⟩
abbrev main_v47 : Ref sig .tc := ⟨.hbm, 83, rfl⟩
abbrev main_cst_17 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_18 : Ref sig .tc := ⟨.hbm, 91, rfl⟩
abbrev main_v54 : Ref sig .tc := ⟨.hbm, 92, rfl⟩
abbrev main_v55 : Ref sig .tc := ⟨.hbm, 93, rfl⟩
abbrev main_cst_19 : Ref sig .tc := ⟨.hbm, 94, rfl⟩
abbrev main_v56 : Ref sig .tc := ⟨.hbm, 95, rfl⟩
abbrev main_v57 : Ref sig .tc := ⟨.hbm, 96, rfl⟩
abbrev main_cst_20 : Ref sig .tc := ⟨.hbm, 97, rfl⟩
abbrev main_call4_v0 : Ref sig .tc := ⟨.hbm, 98, rfl⟩
abbrev main_call4_v1 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_21 : Ref sig .tc := ⟨.hbm, 107, rfl⟩
abbrev main_cst_22 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v65 : Ref sig .tc := ⟨.hbm, 114, rfl⟩
abbrev main_cst_23 : Ref sig .tc := ⟨.hbm, 115, rfl⟩
abbrev main_cst_24 : Ref sig .tc := ⟨.hbm, 116, rfl⟩
abbrev main_cst_25 : Ref sig .tc := ⟨.hbm, 117, rfl⟩
abbrev main_cst_26 : Ref sig .tc := ⟨.hbm, 118, rfl⟩
abbrev main_cst_27 : Ref sig .tc := ⟨.hbm, 119, rfl⟩
abbrev main_cst_28 : Ref sig .tc := ⟨.hbm, 120, rfl⟩
abbrev main_cst_29 : Ref sig .tc := ⟨.hbm, 121, rfl⟩
abbrev main_cst_30 : Ref sig .tc := ⟨.hbm, 122, rfl⟩
abbrev main_cst_31 : Ref sig .tc := ⟨.hbm, 123, rfl⟩
abbrev main_cst_32 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_33 : Ref sig .tc := ⟨.hbm, 142, rfl⟩
abbrev main_v83 : Ref sig .tc := ⟨.hbm, 143, rfl⟩
abbrev main_v84 : Ref sig .tc := ⟨.hbm, 144, rfl⟩
abbrev main_cst_34 : Ref sig .tc := ⟨.hbm, 145, rfl⟩
abbrev main_call6_v0 : Ref sig .tc := ⟨.hbm, 146, rfl⟩
abbrev main_call6_v1 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_35 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_v92 : Ref sig .tc := ⟨.hbm, 159, rfl⟩
abbrev main_cst_36 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_cst_37 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_cst_38 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_cst_39 : Ref sig .tc := ⟨.hbm, 197, rfl⟩
abbrev main_v127 : Ref sig .tc := ⟨.hbm, 198, rfl⟩
abbrev main_c : Ref sig .tc := ⟨.hbm, 199, rfl⟩
abbrev main_v128_0 : Ref sig .tc := ⟨.hbm, 200, rfl⟩
abbrev main_v128_1 : Ref sig .tc := ⟨.hbm, 201, rfl⟩
abbrev main_v128_2 : Ref sig .tc := ⟨.hbm, 202, rfl⟩
abbrev main_v128_3 : Ref sig .tc := ⟨.hbm, 203, rfl⟩
abbrev main_v128_4 : Ref sig .tc := ⟨.hbm, 204, rfl⟩
abbrev main_v128_5 : Ref sig .tc := ⟨.hbm, 205, rfl⟩
abbrev main_v128_6 : Ref sig .tc := ⟨.hbm, 206, rfl⟩
abbrev main_v128_7 : Ref sig .tc := ⟨.hbm, 207, rfl⟩
abbrev main_v128_8 : Ref sig .tc := ⟨.hbm, 208, rfl⟩
abbrev main_v128_9 : Ref sig .tc := ⟨.hbm, 209, rfl⟩
abbrev main_v128_10 : Ref sig .tc := ⟨.hbm, 210, rfl⟩
abbrev main_v128_11 : Ref sig .tc := ⟨.hbm, 211, rfl⟩
abbrev main_v128_12 : Ref sig .tc := ⟨.hbm, 212, rfl⟩
abbrev main_while0c_c_76 : Ref sig .tc := ⟨.hbm, 213, rfl⟩
abbrev main_while0c_v206 : Ref sig .tc := ⟨.hbm, 214, rfl⟩
abbrev main_while0b_call8_c : Ref sig .tc := ⟨.hbm, 215, rfl⟩
abbrev main_while0b_call8_c_0 : Ref sig .tc := ⟨.hbm, 216, rfl⟩
abbrev main_while0b_call8_c_1 : Ref sig .tc := ⟨.hbm, 217, rfl⟩
abbrev main_while0b_call8_c_2 : Ref sig .tc := ⟨.hbm, 218, rfl⟩
abbrev main_while0b_call8_v0 : Ref sig .tc := ⟨.hbm, 219, rfl⟩
abbrev main_while0b_v206 : Ref sig .tc := ⟨.hbm, 220, rfl⟩
abbrev main_while0b_call9_c : Ref sig .tc := ⟨.hbm, 221, rfl⟩
abbrev main_while0b_call9_c_0 : Ref sig .tc := ⟨.hbm, 222, rfl⟩
abbrev main_while0b_call9_c_1 : Ref sig .tc := ⟨.hbm, 223, rfl⟩
abbrev main_while0b_call9_c_2 : Ref sig .tc := ⟨.hbm, 224, rfl⟩
abbrev main_while0b_call9_v0 : Ref sig .tc := ⟨.hbm, 225, rfl⟩
abbrev main_while0b_v207 : Ref sig .tc := ⟨.hbm, 226, rfl⟩
abbrev main_while0b_call10_c : Ref sig .tc := ⟨.hbm, 227, rfl⟩
abbrev main_while0b_call10_c_0 : Ref sig .tc := ⟨.hbm, 228, rfl⟩
abbrev main_while0b_call10_c_1 : Ref sig .tc := ⟨.hbm, 229, rfl⟩
abbrev main_while0b_call10_c_2 : Ref sig .tc := ⟨.hbm, 230, rfl⟩
abbrev main_while0b_call10_v0 : Ref sig .tc := ⟨.hbm, 231, rfl⟩
abbrev main_while0b_v208 : Ref sig .tc := ⟨.hbm, 232, rfl⟩
abbrev main_while0b_call11_c : Ref sig .tc := ⟨.hbm, 233, rfl⟩
abbrev main_while0b_call11_c_0 : Ref sig .tc := ⟨.hbm, 234, rfl⟩
abbrev main_while0b_call11_c_1 : Ref sig .tc := ⟨.hbm, 235, rfl⟩
abbrev main_while0b_call11_v0 : Ref sig .tc := ⟨.hbm, 236, rfl⟩
abbrev main_while0b_v209 : Ref sig .tc := ⟨.hbm, 237, rfl⟩
abbrev main_while0b_call12_c : Ref sig .tc := ⟨.hbm, 238, rfl⟩
abbrev main_while0b_call12_c_0 : Ref sig .tc := ⟨.hbm, 239, rfl⟩
abbrev main_while0b_call12_c_1 : Ref sig .tc := ⟨.hbm, 240, rfl⟩
abbrev main_while0b_call12_v0 : Ref sig .tc := ⟨.hbm, 241, rfl⟩
abbrev main_while0b_v210 : Ref sig .tc := ⟨.hbm, 242, rfl⟩
abbrev main_while0b_call13_c : Ref sig .tc := ⟨.hbm, 243, rfl⟩
abbrev main_while0b_call13_c_0 : Ref sig .tc := ⟨.hbm, 244, rfl⟩
abbrev main_while0b_call13_c_1 : Ref sig .tc := ⟨.hbm, 245, rfl⟩
abbrev main_while0b_call13_v0 : Ref sig .tc := ⟨.hbm, 246, rfl⟩
abbrev main_while0b_v211 : Ref sig .tc := ⟨.hbm, 247, rfl⟩
abbrev main_while0b_v212 : Ref sig .tc := ⟨.hbm, 248, rfl⟩
abbrev main_while0b_v213 : Ref sig .tc := ⟨.hbm, 249, rfl⟩
abbrev main_while0b_v214 : Ref sig .tc := ⟨.hbm, 250, rfl⟩
abbrev main_while0b_v215 : Ref sig .tc := ⟨.hbm, 251, rfl⟩
abbrev main_while0b_v216 : Ref sig .tc := ⟨.hbm, 252, rfl⟩
abbrev main_while0b_v217 : Ref sig .tc := ⟨.hbm, 253, rfl⟩
abbrev main_while0b_v218 : Ref sig .tc := ⟨.hbm, 254, rfl⟩
abbrev main_while0b_v219 : Ref sig .tc := ⟨.hbm, 255, rfl⟩
abbrev main_while0b_v220 : Ref sig .tc := ⟨.hbm, 256, rfl⟩
abbrev main_while0b_cst_76 : Ref sig .tc := ⟨.hbm, 257, rfl⟩
abbrev main_while0b_v221 : Ref sig .tc := ⟨.hbm, 258, rfl⟩
abbrev main_while0b_v222 : Ref sig .tc := ⟨.hbm, 259, rfl⟩
abbrev main_while0b_v223 : Ref sig .tc := ⟨.hbm, 260, rfl⟩
abbrev main_while0b_v224 : Ref sig .tc := ⟨.hbm, 261, rfl⟩
abbrev main_while0b_v225 : Ref sig .tc := ⟨.hbm, 262, rfl⟩
abbrev main_while0b_v226 : Ref sig .tc := ⟨.hbm, 263, rfl⟩
abbrev main_while0b_v227 : Ref sig .tc := ⟨.hbm, 264, rfl⟩
abbrev main_while0b_v228 : Ref sig .tc := ⟨.hbm, 265, rfl⟩
abbrev main_while0b_v229 : Ref sig .tc := ⟨.hbm, 266, rfl⟩
abbrev main_while0b_v230 : Ref sig .tc := ⟨.hbm, 267, rfl⟩
abbrev main_while0b_v231 : Ref sig .tc := ⟨.hbm, 268, rfl⟩
abbrev main_while0b_v232 : Ref sig .tc := ⟨.hbm, 269, rfl⟩
abbrev main_while0b_v233 : Ref sig .tc := ⟨.hbm, 270, rfl⟩
abbrev main_while0b_v234 : Ref sig .tc := ⟨.hbm, 271, rfl⟩
abbrev main_while0b_v235 : Ref sig .tc := ⟨.hbm, 272, rfl⟩
abbrev main_while0b_v236 : Ref sig .tc := ⟨.hbm, 273, rfl⟩
abbrev main_while0b_cst_77 : Ref sig .tc := ⟨.hbm, 274, rfl⟩
abbrev main_while0b_v237 : Ref sig .tc := ⟨.hbm, 275, rfl⟩
abbrev main_while0b_v238 : Ref sig .tc := ⟨.hbm, 276, rfl⟩
abbrev main_while0b_v239 : Ref sig .tc := ⟨.hbm, 277, rfl⟩
abbrev main_while0b_v240 : Ref sig .tc := ⟨.hbm, 278, rfl⟩
abbrev main_while0b_v241 : Ref sig .tc := ⟨.hbm, 279, rfl⟩
abbrev main_while0b_v242 : Ref sig .tc := ⟨.hbm, 280, rfl⟩
abbrev main_while0b_v243 : Ref sig .tc := ⟨.hbm, 281, rfl⟩
abbrev main_while0b_v244 : Ref sig .tc := ⟨.hbm, 282, rfl⟩
abbrev main_while0b_v245 : Ref sig .tc := ⟨.hbm, 283, rfl⟩
abbrev main_while0b_v246 : Ref sig .tc := ⟨.hbm, 284, rfl⟩
abbrev main_while0b_v247 : Ref sig .tc := ⟨.hbm, 285, rfl⟩
abbrev main_while0b_v248 : Ref sig .tc := ⟨.hbm, 286, rfl⟩
abbrev main_while0b_v249 : Ref sig .tc := ⟨.hbm, 287, rfl⟩
abbrev main_while0b_v250 : Ref sig .tc := ⟨.hbm, 288, rfl⟩
abbrev main_while0b_v251 : Ref sig .tc := ⟨.hbm, 289, rfl⟩
abbrev main_while0b_v252 : Ref sig .tc := ⟨.hbm, 290, rfl⟩
abbrev main_while0b_v253 : Ref sig .tc := ⟨.hbm, 291, rfl⟩
abbrev main_while0b_v254 : Ref sig .tc := ⟨.hbm, 292, rfl⟩
abbrev main_while0b_cst_78 : Ref sig .tc := ⟨.hbm, 293, rfl⟩
abbrev main_while0b_v255 : Ref sig .tc := ⟨.hbm, 294, rfl⟩
abbrev main_while0b_v256 : Ref sig .tc := ⟨.hbm, 295, rfl⟩
abbrev main_while0b_cst_79 : Ref sig .tc := ⟨.hbm, 296, rfl⟩
abbrev main_while0b_v257 : Ref sig .tc := ⟨.hbm, 297, rfl⟩
abbrev main_while0b_v258 : Ref sig .tc := ⟨.hbm, 298, rfl⟩
abbrev main_while0b_v259 : Ref sig .tc := ⟨.hbm, 299, rfl⟩
abbrev main_while0b_v260 : Ref sig .tc := ⟨.hbm, 300, rfl⟩
abbrev main_while0b_v261 : Ref sig .tc := ⟨.hbm, 301, rfl⟩
abbrev main_while0b_cst_80 : Ref sig .tc := ⟨.hbm, 302, rfl⟩
abbrev main_while0b_v262 : Ref sig .tc := ⟨.hbm, 303, rfl⟩
abbrev main_while0b_v263 : Ref sig .tc := ⟨.hbm, 304, rfl⟩
abbrev main_while0b_cst_81 : Ref sig .tc := ⟨.hbm, 305, rfl⟩
abbrev main_while0b_v264 : Ref sig .tc := ⟨.hbm, 306, rfl⟩
abbrev main_while0b_v265 : Ref sig .tc := ⟨.hbm, 307, rfl⟩
abbrev main_while0b_cst_82 : Ref sig .tc := ⟨.hbm, 308, rfl⟩
abbrev main_while0b_v266 : Ref sig .tc := ⟨.hbm, 309, rfl⟩
abbrev main_while0b_v267 : Ref sig .tc := ⟨.hbm, 310, rfl⟩
abbrev main_while0b_v268 : Ref sig .tc := ⟨.hbm, 311, rfl⟩
abbrev main_while0b_v269 : Ref sig .tc := ⟨.hbm, 312, rfl⟩
abbrev main_while0b_v270 : Ref sig .tc := ⟨.hbm, 313, rfl⟩
abbrev main_while0b_v271 : Ref sig .tc := ⟨.hbm, 314, rfl⟩
abbrev main_while0b_v272 : Ref sig .tc := ⟨.hbm, 315, rfl⟩
abbrev main_while0b_v273 : Ref sig .tc := ⟨.hbm, 316, rfl⟩
abbrev main_while0b_v274 : Ref sig .tc := ⟨.hbm, 317, rfl⟩
abbrev main_while0b_v275 : Ref sig .tc := ⟨.hbm, 318, rfl⟩
abbrev main_while0b_v276 : Ref sig .tc := ⟨.hbm, 319, rfl⟩
abbrev main_while0b_call14_v0 : Ref sig .tc := ⟨.hbm, 320, rfl⟩
abbrev main_while0b_call14_c : Ref sig .tc := ⟨.hbm, 321, rfl⟩
abbrev main_while0b_call14_c_0 : Ref sig .tc := ⟨.hbm, 322, rfl⟩
abbrev main_while0b_call14_c_1 : Ref sig .tc := ⟨.hbm, 323, rfl⟩
abbrev main_while0b_call14_c_2 : Ref sig .tc := ⟨.hbm, 324, rfl⟩
abbrev main_while0b_v277 : Ref sig .tc := ⟨.hbm, 325, rfl⟩
abbrev main_while0b_c_83 : Ref sig .tc := ⟨.hbm, 326, rfl⟩
abbrev main_while0b_v278 : Ref sig .tc := ⟨.hbm, 327, rfl⟩
abbrev main_v129 : Ref sig .tc := ⟨.hbm, 328, rfl⟩
abbrev main_v130 : Ref sig .tc := ⟨.hbm, 329, rfl⟩
abbrev main_v131 : Ref sig .tc := ⟨.hbm, 330, rfl⟩
abbrev main_v132 : Ref sig .tc := ⟨.hbm, 331, rfl⟩
abbrev main_cst_40 : Ref sig .tc := ⟨.hbm, 332, rfl⟩
abbrev main_v133 : Ref sig .tc := ⟨.hbm, 333, rfl⟩
abbrev main_cst_41 : Ref sig .tc := ⟨.hbm, 334, rfl⟩
abbrev main_v134 : Ref sig .tc := ⟨.hbm, 335, rfl⟩
abbrev main_cst_42 : Ref sig .tc := ⟨.hbm, 336, rfl⟩
abbrev main_v135 : Ref sig .tc := ⟨.hbm, 337, rfl⟩
abbrev main_v136 : Ref sig .tc := ⟨.hbm, 338, rfl⟩
abbrev main_v137 : Ref sig .tc := ⟨.hbm, 339, rfl⟩
abbrev main_v138 : Ref sig .tc := ⟨.hbm, 340, rfl⟩
abbrev main_v139 : Ref sig .tc := ⟨.hbm, 341, rfl⟩
abbrev main_v140 : Ref sig .tc := ⟨.hbm, 342, rfl⟩
abbrev main_cst_43 : Ref sig .tc := ⟨.hbm, 343, rfl⟩
abbrev main_v141 : Ref sig .tc := ⟨.hbm, 344, rfl⟩
abbrev main_v142 : Ref sig .tc := ⟨.hbm, 345, rfl⟩
abbrev main_cst_44 : Ref sig .tc := ⟨.hbm, 346, rfl⟩
abbrev main_v143 : Ref sig .tc := ⟨.hbm, 347, rfl⟩
abbrev main_v144 : Ref sig .tc := ⟨.hbm, 348, rfl⟩
abbrev main_cst_45 : Ref sig .tc := ⟨.hbm, 349, rfl⟩
abbrev main_call15_v0 : Ref sig .tc := ⟨.hbm, 350, rfl⟩
abbrev main_call15_v1 : Ref sig .tc := ⟨.hbm, 351, rfl⟩
abbrev main_v145 : Ref sig .tc := ⟨.hbm, 352, rfl⟩
abbrev main_v146 : Ref sig .tc := ⟨.hbm, 353, rfl⟩
abbrev main_v147 : Ref sig .tc := ⟨.hbm, 354, rfl⟩
abbrev main_v148 : Ref sig .tc := ⟨.hbm, 355, rfl⟩
abbrev main_v149 : Ref sig .tc := ⟨.hbm, 356, rfl⟩
abbrev main_v150 : Ref sig .tc := ⟨.hbm, 357, rfl⟩
abbrev main_v151 : Ref sig .tc := ⟨.hbm, 358, rfl⟩
abbrev main_cst_46 : Ref sig .tc := ⟨.hbm, 359, rfl⟩
abbrev main_cst_47 : Ref sig .tc := ⟨.hbm, 360, rfl⟩
abbrev main_call16_v0 : Ref sig .tc := ⟨.hbm, 361, rfl⟩
abbrev main_call16_v1 : Ref sig .tc := ⟨.hbm, 362, rfl⟩
abbrev main_call16_v2 : Ref sig .tc := ⟨.hbm, 363, rfl⟩
abbrev main_call16_v3 : Ref sig .tc := ⟨.hbm, 364, rfl⟩
abbrev main_call16_v4 : Ref sig .tc := ⟨.hbm, 365, rfl⟩
abbrev main_v152 : Ref sig .tc := ⟨.hbm, 366, rfl⟩
abbrev main_v153 : Ref sig .tc := ⟨.hbm, 367, rfl⟩
abbrev main_v154 : Ref sig .tc := ⟨.hbm, 368, rfl⟩
abbrev main_v155 : Ref sig .tc := ⟨.hbm, 369, rfl⟩
abbrev main_v156 : Ref sig .tc := ⟨.hbm, 370, rfl⟩
abbrev main_v157 : Ref sig .tc := ⟨.hbm, 371, rfl⟩
abbrev main_cst_48 : Ref sig .tc := ⟨.hbm, 372, rfl⟩
abbrev main_v158 : Ref sig .tc := ⟨.hbm, 373, rfl⟩
abbrev main_cst_49 : Ref sig .tc := ⟨.hbm, 374, rfl⟩
abbrev main_v159 : Ref sig .tc := ⟨.hbm, 375, rfl⟩
abbrev main_cst_50 : Ref sig .tc := ⟨.hbm, 376, rfl⟩
abbrev main_v160 : Ref sig .tc := ⟨.hbm, 377, rfl⟩
abbrev main_v161 : Ref sig .tc := ⟨.hbm, 378, rfl⟩
abbrev main_v162 : Ref sig .tc := ⟨.hbm, 379, rfl⟩
abbrev main_v163 : Ref sig .tc := ⟨.hbm, 380, rfl⟩
abbrev main_v164 : Ref sig .tc := ⟨.hbm, 381, rfl⟩
abbrev main_v165 : Ref sig .tc := ⟨.hbm, 382, rfl⟩
abbrev main_cst_51 : Ref sig .tc := ⟨.hbm, 383, rfl⟩
abbrev main_v166 : Ref sig .tc := ⟨.hbm, 384, rfl⟩
abbrev main_v167 : Ref sig .tc := ⟨.hbm, 385, rfl⟩
abbrev main_cst_52 : Ref sig .tc := ⟨.hbm, 386, rfl⟩
abbrev main_v168 : Ref sig .tc := ⟨.hbm, 387, rfl⟩
abbrev main_v169 : Ref sig .tc := ⟨.hbm, 388, rfl⟩
abbrev main_cst_53 : Ref sig .tc := ⟨.hbm, 389, rfl⟩
abbrev main_call17_v0 : Ref sig .tc := ⟨.hbm, 390, rfl⟩
abbrev main_call17_v1 : Ref sig .tc := ⟨.hbm, 391, rfl⟩
abbrev main_v170 : Ref sig .tc := ⟨.hbm, 392, rfl⟩
abbrev main_v171 : Ref sig .tc := ⟨.hbm, 393, rfl⟩
abbrev main_v172 : Ref sig .tc := ⟨.hbm, 394, rfl⟩
abbrev main_v173 : Ref sig .tc := ⟨.hbm, 395, rfl⟩
abbrev main_v174 : Ref sig .tc := ⟨.hbm, 396, rfl⟩
abbrev main_v175 : Ref sig .tc := ⟨.hbm, 397, rfl⟩
abbrev main_v176 : Ref sig .tc := ⟨.hbm, 398, rfl⟩
abbrev main_cst_54 : Ref sig .tc := ⟨.hbm, 399, rfl⟩
abbrev main_cst_55 : Ref sig .tc := ⟨.hbm, 400, rfl⟩
abbrev main_call18_v0 : Ref sig .tc := ⟨.hbm, 401, rfl⟩
abbrev main_call18_v1 : Ref sig .tc := ⟨.hbm, 402, rfl⟩
abbrev main_call18_v2 : Ref sig .tc := ⟨.hbm, 403, rfl⟩
abbrev main_call18_v3 : Ref sig .tc := ⟨.hbm, 404, rfl⟩
abbrev main_call18_v4 : Ref sig .tc := ⟨.hbm, 405, rfl⟩
abbrev main_v177 : Ref sig .tc := ⟨.hbm, 406, rfl⟩
abbrev main_v178 : Ref sig .tc := ⟨.hbm, 407, rfl⟩
abbrev main_v179 : Ref sig .tc := ⟨.hbm, 408, rfl⟩
abbrev main_v180 : Ref sig .tc := ⟨.hbm, 409, rfl⟩
abbrev main_v181 : Ref sig .tc := ⟨.hbm, 410, rfl⟩
abbrev main_v182 : Ref sig .tc := ⟨.hbm, 411, rfl⟩
abbrev main_cst_56 : Ref sig .tc := ⟨.hbm, 412, rfl⟩
abbrev main_v183 : Ref sig .tc := ⟨.hbm, 413, rfl⟩
abbrev main_cst_57 : Ref sig .tc := ⟨.hbm, 414, rfl⟩
abbrev main_v184 : Ref sig .tc := ⟨.hbm, 415, rfl⟩
abbrev main_cst_58 : Ref sig .tc := ⟨.hbm, 416, rfl⟩
abbrev main_v185 : Ref sig .tc := ⟨.hbm, 417, rfl⟩
abbrev main_v186 : Ref sig .tc := ⟨.hbm, 418, rfl⟩
abbrev main_v187 : Ref sig .tc := ⟨.hbm, 419, rfl⟩
abbrev main_v188 : Ref sig .tc := ⟨.hbm, 420, rfl⟩
abbrev main_v189 : Ref sig .tc := ⟨.hbm, 421, rfl⟩
abbrev main_v190 : Ref sig .tc := ⟨.hbm, 422, rfl⟩
abbrev main_cst_59 : Ref sig .tc := ⟨.hbm, 423, rfl⟩
abbrev main_v191 : Ref sig .tc := ⟨.hbm, 424, rfl⟩
abbrev main_v192 : Ref sig .tc := ⟨.hbm, 425, rfl⟩
abbrev main_cst_60 : Ref sig .tc := ⟨.hbm, 426, rfl⟩
abbrev main_v193 : Ref sig .tc := ⟨.hbm, 427, rfl⟩
abbrev main_v194 : Ref sig .tc := ⟨.hbm, 428, rfl⟩
abbrev main_cst_61 : Ref sig .tc := ⟨.hbm, 429, rfl⟩
abbrev main_call19_v0 : Ref sig .tc := ⟨.hbm, 430, rfl⟩
abbrev main_call19_v1 : Ref sig .tc := ⟨.hbm, 431, rfl⟩
abbrev main_v195 : Ref sig .tc := ⟨.hbm, 432, rfl⟩
abbrev main_v196 : Ref sig .tc := ⟨.hbm, 433, rfl⟩
abbrev main_v197 : Ref sig .tc := ⟨.hbm, 434, rfl⟩
abbrev main_v198 : Ref sig .tc := ⟨.hbm, 435, rfl⟩
abbrev main_v199 : Ref sig .tc := ⟨.hbm, 436, rfl⟩
abbrev main_v200 : Ref sig .tc := ⟨.hbm, 437, rfl⟩
abbrev main_v201 : Ref sig .tc := ⟨.hbm, 438, rfl⟩
abbrev main_cst_62 : Ref sig .tc := ⟨.hbm, 439, rfl⟩
abbrev main_cst_63 : Ref sig .tc := ⟨.hbm, 440, rfl⟩
abbrev main_call20_v0 : Ref sig .tc := ⟨.hbm, 441, rfl⟩
abbrev main_call20_v1 : Ref sig .tc := ⟨.hbm, 442, rfl⟩
abbrev main_call20_v2 : Ref sig .tc := ⟨.hbm, 443, rfl⟩
abbrev main_call20_v3 : Ref sig .tc := ⟨.hbm, 444, rfl⟩
abbrev main_call20_v4 : Ref sig .tc := ⟨.hbm, 445, rfl⟩
abbrev main_v202 : Ref sig .tc := ⟨.hbm, 446, rfl⟩
abbrev main_v203 : Ref sig .tc := ⟨.hbm, 447, rfl⟩
abbrev main_v204 : Ref sig .tc := ⟨.hbm, 448, rfl⟩
abbrev main_v205 : Ref sig .tc := ⟨.hbm, 449, rfl⟩

abbrev nD : Nat := 1
abbrev τ : Topo := Topo.v7x

variable {F : FTy → Type} [FloatOps F]

abbrev main_while0_count : Scf.Loop 32 := ⟨0#32, 8#32, 1#32⟩
-- ==== Proof.LoopRun.lean ====
/-
  The run of the reference, stated over one trip of its loop: at a valuation that holds a state (the state at the buffers
  the loop's body writes, the values computed before the loop at the loop's constants, the trip's number at its counters)
  every value of one trip is that of the Step module, one lemma each; so one trip keeps holding, with `step` applied.  What
  the program leaves before the loop holds `init`, and its results are read from `step` iterated from `init`.
-/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v128_11) = s.main_v128_11
  f_12 : V0 (Proc.devRef .tc main_v128_12) = s.main_v128_12
  f_0 : V0 (Proc.devRef .tc main_v128_0) = s.main_v128_0
  f_1 : V0 (Proc.devRef .tc main_v128_1) = s.main_v128_1
  f_2 : V0 (Proc.devRef .tc main_v128_2) = s.main_v128_2
  f_3 : V0 (Proc.devRef .tc main_v128_3) = s.main_v128_3
  f_4 : V0 (Proc.devRef .tc main_v128_4) = s.main_v128_4
  f_5 : V0 (Proc.devRef .tc main_v128_5) = s.main_v128_5
  n_10 : V0 (Proc.devRef .tc main_v128_10) = constantI S_ 32 (BitVec.ofNat 32 j)
  k_6 : V0 (Proc.devRef .tc main_v128_6) = Cert.ReferenceIdeal.Step.K_main_v92 (F := F)
  k_7 : V0 (Proc.devRef .tc main_v128_7) = Cert.ReferenceIdeal.Step.K_main_v110 (F := F)
  k_8 : V0 (Proc.devRef .tc main_v128_8) = Cert.ReferenceIdeal.Step.K_main_v101 (F := F)
  k_9 : V0 (Proc.devRef .tc main_v128_9) = Cert.ReferenceIdeal.Step.K_main_v114 (F := F)

variable {V0 s j}

set_option maxRecDepth 8192 in
theorem al_0 (h : Holds V0 s j) : (constantI S_ 32 0#32 : (Proc.devRef .tc main_while0b_call8_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call8_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call8_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call8_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x10x128x256 (V0 (Proc.devRef .tc main_v128_0)) (fun k => (((![V0 (Proc.devRef .tc main_v128_10), constantI S_ 32 0#32, constantI S_ 32 0#32, constantI S_ 32 0#32, constantI S_ 32 0#32] : Fin 5 → (⟨S_, .i32⟩ : BufTy).Contents (Elt F))) k (Shape.Idx.first h_S_)).toInt) sliceFits_S8x2x10x128x256_S1x2x10x128x256 : (Proc.devRef .tc main_while0b_call8_v0 : DevRef τ sig).ty.Contents (Elt F)) = Cert.ReferenceIdeal.Step.b4 j s := by
  unfold Cert.ReferenceIdeal.Step.b4
  rw [← al_0 h, ← al_1 h, ← al_2 h, ← al_3 h, h.f_0, h.n_10]
  try rfl
set_option maxRecDepth 8192 in
theorem al_5 (h : Holds V0 s j) : (res_main_while0b_v206 V0 : (Proc.devRef .tc main_while0b_v206 : DevRef τ sig).ty.Contents (Elt F)) = Cert.ReferenceIdeal.Step.b5 j s := by
  unfold res_main_while0b_v206 Cert.ReferenceIdeal.Step.b5
  rw [← al_4 h]
  try rfl
set_option maxRecDepth 8192 in
theorem al_6 (h : Holds V0 s j) : (constantI S_ 32 0#32 : (Proc.devRef .tc main_while0b_call9_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call9_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call9_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call9_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x10x128x256 (V0 (Proc.devRef .tc main_v128_1)) (fun k => (((![V0 (Proc.devRef .tc main_v128_10), constantI S_ 32 0#32, constantI S_ 32 0#32, constantI S_ 32 0#32, constantI S_ 32 0#32] : Fin 5 → (⟨S_, .i32⟩ : BufTy).Contents (Elt F))) k (Shape.Idx.first h_S_)).toInt) sliceFits_S8x2x10x128x256_S1x2x10x128x256 : (Proc.devRef .tc main_while0b_call9_v0 : DevRef τ sig).ty.Contents (Elt F)) = Cert.ReferenceIdeal.Step.b10 j s := by
  unfold Cert.ReferenceIdeal.Step.b10
  rw [← al_6 h, ← al_7 h, ← al_8 h, ← al_9 h, h.f_1, h.n_10]
  try rfl
set_option maxRecDepth 8192 in
theorem al_11 (h : Holds V0 s j) : (res_main_while0b_v207 V0 : (Proc.devRef .tc main_while0b_v207 : DevRef τ sig).ty.Contents (Elt F)) = Cert.ReferenceIdeal.Step.b11 j s := by
  unfold res_main_while0b_v207 Cert.ReferenceIdeal.Step.b11
  rw [← al_10 h]
  try rfl
set_option maxRecDepth 8192 in
theorem al_12 (h : Holds V0 s j) : (constantI S_ 32 0#32 : (Proc.devRef .tc main_while0b_call10_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call10_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call10_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call10_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x10x128x512 (V0 (Proc.devRef .tc main_v128_2)) (fun k => (((![V0 (Proc.devRef .tc main_v128_10), constantI S_ 32 0#32, constantI S_ 32 0#32, constantI S_ 32 0#32, constantI S_ 32 0#32] : Fin 5 → (⟨S_, .i32⟩ : BufTy).Contents (Elt F))) k (Shape.Idx.first h_S_)).toInt) sliceFits_S8x2x10x128x512_S1x2x10x128x512 : (Proc.devRef .tc main_while0b_call10_v0 : DevRef τ sig).ty.Contents (Elt F)) = Cert.ReferenceIdeal.Step.b16 j s := by
  unfold Cert.ReferenceIdeal.Step.b16
  rw [← al_12 h, ← al_13 h, ← al_14 h, ← al_15 h, h.f_2, h.n_10]
  try rfl
set_option maxRecDepth 8192 in
theorem al_17 (h : Holds V0 s j) : (shapeCast S2x10x128x512 (Host.dynamicSlice S1x2x10x128x512 (V0 (Proc.devRef .tc main_v128_2)) (fun k => (((![V0 (Proc.devRef .tc main_v128_10), constantI S_ 32 0#32, constantI S_ 32 0#32, constantI S_ 32 0#32, constantI S_ 32 0#32] : Fin 5 → (⟨S_, .i32⟩ : BufTy).Contents (Elt F))) k (Shape.Idx.first h_S_)).toInt) sliceFits_S8x2x10x128x512_S1x2x10x128x512) shapeCasts_S1x2x10x128x512_S2x10x128x512 : (Proc.devRef .tc main_while0b_v208 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call11_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call11_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call11_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x2x10x128 (V0 (Proc.devRef .tc main_v128_3)) (fun k => (((![V0 (Proc.devRef .tc main_v128_10), constantI S_ 32 0#32, constantI S_ 32 0#32, constantI S_ 32 0#32] : Fin 4 → (⟨S_, .i32⟩ : BufTy).Contents (Elt F))) k (Shape.Idx.first h_S_)).toInt) sliceFits_S8x2x10x128_S1x2x10x128 : (Proc.devRef .tc main_while0b_call11_v0 : DevRef τ sig).ty.Contents (Elt F)) = Cert.ReferenceIdeal.Step.b21 j s := by
  unfold Cert.ReferenceIdeal.Step.b21
  rw [← al_18 h, ← al_19 h, ← al_20 h, h.f_3, h.n_10]
  try rfl
set_option maxRecDepth 8192 in
theorem al_22 (h : Holds V0 s j) : (res_main_while0b_v209 V0 : (Proc.devRef .tc main_while0b_v209 : DevRef τ sig).ty.Contents (Elt F)) = Cert.ReferenceIdeal.Step.b22 j s := by
  unfold res_main_while0b_v209 Cert.ReferenceIdeal.Step.b22
  rw [← al_21 h]
  try rfl
set_option maxRecDepth 8192 in
theorem al_23 (h : Holds V0 s j) : (constantI S_ 32 0#32 : (Proc.devRef .tc main_while0b_call12_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call12_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call12_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x2x10x128 (V0 (Proc.devRef .tc main_v128_4)) (fun k => (((![V0 (Proc.devRef .tc main_v128_10), constantI S_ 32 0#32, constantI S_ 32 0#32, constantI S_ 32 0#32] : Fin 4 → (⟨S_, .i32⟩ : BufTy).Contents (Elt F))) k (Shape.Idx.first h_S_)).toInt) sliceFits_S8x2x10x128_S1x2x10x128 : (Proc.devRef .tc main_while0b_call12_v0 : DevRef τ sig).ty.Contents (Elt F)) = Cert.ReferenceIdeal.Step.b26 j s := by
  unfold Cert.ReferenceIdeal.Step.b26
  rw [← al_23 h, ← al_24 h, ← al_25 h, h.f_4, h.n_10]
  try rfl
set_option maxRecDepth 8192 in
theorem al_27 (h : Holds V0 s j) : (res_main_while0b_v210 V0 : (Proc.devRef .tc main_while0b_v210 : DevRef τ sig).ty.Contents (Elt F)) = Cert.ReferenceIdeal.Step.b27 j s := by
  unfold res_main_while0b_v210 Cert.ReferenceIdeal.Step.b27
  rw [← al_26 h]
  try rfl
set_option maxRecDepth 8192 in
theorem al_28 (h : Holds V0 s j) : (constantI S_ 32 0#32 : (Proc.devRef .tc main_while0b_call13_c : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call13_c_0 : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call13_c_1 : DevRef τ sig).ty.Contents (Elt F)) = Cert.ReferenceIdeal.Step.b30 j s := by
  unfold Cert.ReferenceIdeal.Step.b30
  rfl
set_option maxRecDepth 8192 in
theorem al_31 (h : Holds V0 s j) : (Host.dynamicSlice S1x2x10x128 (V0 (Proc.devRef .tc main_v128_5)) (fun k => (((![V0 (Proc.devRef .tc main_v128_10), constantI S_ 32 0#32, constantI S_ 32 0#32, constantI S_ 32 0#32] : Fin 4 → (⟨S_, .i32⟩ : BufTy).Contents (Elt F))) k (Shape.Idx.first h_S_)).toInt) sliceFits_S8x2x10x128_S1x2x10x128 : (Proc.devRef .tc main_while0b_call13_v0 : DevRef τ sig).ty.Contents (Elt F)) = Cert.ReferenceIdeal.Step.b31 j s := by
  unfold Cert.ReferenceIdeal.Step.b31
  rw [← al_28 h, ← al_29 h, ← al_30 h, h.f_5, h.n_10]
  try rfl
set_option maxRecDepth 8192 in
theorem al_32 (h : Holds V0 s j) : (shapeCast S2x10x128 (Host.dynamicSlice S1x2x10x128 (V0 (Proc.devRef .tc main_v128_5)) (fun k => (((![V0 (Proc.devRef .tc main_v128_10), constantI S_ 32 0#32, constantI S_ 32 0#32, constantI S_ 32 0#32] : Fin 4 → (⟨S_, .i32⟩ : BufTy).Contents (Elt F))) k (Shape.Idx.first h_S_)).toInt) sliceFits_S8x2x10x128_S1x2x10x128) shapeCasts_S1x2x10x128_S2x10x128 : (Proc.devRef .tc main_while0b_v211 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (res_main_while0b_v212 V0 : (Proc.devRef .tc main_while0b_v212 : DevRef τ sig).ty.Contents (Elt F)) = Cert.ReferenceIdeal.Step.b33 j s := by
  unfold res_main_while0b_v212 Cert.ReferenceIdeal.Step.b33
  rw [← al_17 h]
  try rfl
set_option maxRecDepth 8192 in
theorem al_34 (h : Holds V0 s j) : (res_main_while0b_v213 V0 : (Proc.devRef .tc main_while0b_v213 : DevRef τ sig).ty.Contents (Elt F)) = Cert.ReferenceIdeal.Step.b34 j s := by
  unfold res_main_while0b_v213 Cert.ReferenceIdeal.Step.b34
  rw [← al_32 h]
  try rfl
set_option maxRecDepth 8192 in
theorem al_35 (h : Holds V0 s j) : (Host.dotGeneral dot_S2x10x128x256_S2x10x128x256_S2x10x128x128_3_3_2_2_01_01 none (res_main_while0b_v206 V0) (res_main_while0b_v207 V0) : (Proc.devRef .tc main_while0b_v214 : DevRef τ sig).ty.Contents (Elt F)) = Cert.ReferenceIdeal.Step.b35 j s := by
  unfold Cert.ReferenceIdeal.Step.b35
  rw [← al_5 h, ← al_11 h]
  try rfl
set_option maxRecDepth 8192 in
theorem al_36 (h : Holds V0 s j) : (broadcastInDim S2x10x128x1 ![0, 1, 2] bcast_S2x10x128_S2x10x128x1_0_1_2 (res_main_while0b_v209 V0) : (Proc.devRef .tc main_while0b_v215 : DevRef τ sig).ty.Contents (Elt F)) = Cert.ReferenceIdeal.Step.b36 j s := by
  unfold Cert.ReferenceIdeal.Step.b36
  rw [← al_22 h]
  try rfl
set_option maxRecDepth 8192 in
theorem al_37 (h : Holds V0 s j) : (broadcastInDim S2x10x128x128 ![0, 1, 2, 3] bcast_S2x10x128x1_S2x10x128x128_0_1_2_3 (broadcastInDim S2x10x128x1 ![0, 1, 2] bcast_S2x10x128_S2x10x128x1_0_1_2 (res_main_while0b_v209 V0)) : (Proc.devRef .tc main_while0b_v216 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (mulf (Host.dotGeneral dot_S2x10x128x256_S2x10x128x256_S2x10x128x128_3_3_2_2_01_01 none (res_main_while0b_v206 V0) (res_main_while0b_v207 V0)) (broadcastInDim S2x10x128x128 ![0, 1, 2, 3] bcast_S2x10x128x1_S2x10x128x128_0_1_2_3 (broadcastInDim S2x10x128x1 ![0, 1, 2] bcast_S2x10x128_S2x10x128x1_0_1_2 (res_main_while0b_v209 V0))) : (Proc.devRef .tc main_while0b_v217 : DevRef τ sig).ty.Contents (Elt F)) = Cert.ReferenceIdeal.Step.b38 j s := by
  unfold Cert.ReferenceIdeal.Step.b38
  rw [← al_35 h, ← al_37 h]
  try rfl
set_option maxRecDepth 8192 in
theorem al_39 (h : Holds V0 s j) : (broadcastInDim S2x10x1x128 ![0, 1, 3] bcast_S2x10x128_S2x10x1x128_0_1_3 (res_main_while0b_v210 V0) : (Proc.devRef .tc main_while0b_v218 : DevRef τ sig).ty.Contents (Elt F)) = Cert.ReferenceIdeal.Step.b39 j s := by
  unfold Cert.ReferenceIdeal.Step.b39
  rw [← al_27 h]
  try rfl
set_option maxRecDepth 8192 in
theorem al_40 (h : Holds V0 s j) : (broadcastInDim S2x10x128x128 ![0, 1, 2, 3] bcast_S2x10x1x128_S2x10x128x128_0_1_2_3 (broadcastInDim S2x10x1x128 ![0, 1, 3] bcast_S2x10x128_S2x10x1x128_0_1_3 (res_main_while0b_v210 V0)) : (Proc.devRef .tc main_while0b_v219 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (mulf (mulf (Host.dotGeneral dot_S2x10x128x256_S2x10x128x256_S2x10x128x128_3_3_2_2_01_01 none (res_main_while0b_v206 V0) (res_main_while0b_v207 V0)) (broadcastInDim S2x10x128x128 ![0, 1, 2, 3] bcast_S2x10x128x1_S2x10x128x128_0_1_2_3 (broadcastInDim S2x10x128x1 ![0, 1, 2] bcast_S2x10x128_S2x10x128x1_0_1_2 (res_main_while0b_v209 V0)))) (broadcastInDim S2x10x128x128 ![0, 1, 2, 3] bcast_S2x10x1x128_S2x10x128x128_0_1_2_3 (broadcastInDim S2x10x1x128 ![0, 1, 3] bcast_S2x10x128_S2x10x1x128_0_1_3 (res_main_while0b_v210 V0))) : (Proc.devRef .tc main_while0b_v220 : DevRef τ sig).ty.Contents (Elt F)) = Cert.ReferenceIdeal.Step.b41 j s := by
  unfold Cert.ReferenceIdeal.Step.b41
  rw [← al_38 h, ← al_40 h]
  try rfl
set_option maxRecDepth 8192 in
theorem al_42 (h : Holds V0 s j) : (constant S_ .f32 0x3D800000#32 : (Proc.devRef .tc main_while0b_cst_76 : DevRef τ sig).ty.Contents (Elt F)) = Cert.ReferenceIdeal.Step.b42 j s := by
  unfold Cert.ReferenceIdeal.Step.b42
  rfl
set_option maxRecDepth 8192 in
theorem al_43 (h : Holds V0 s j) : (broadcastInDim S10x128x128 ![] bcast_S_S10x128x128 (constant S_ .f32 0x3D800000#32) : (Proc.devRef .tc main_while0b_v221 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (mulf (broadcastInDim S10x128x128 ![] bcast_S_S10x128x128 (constant S_ .f32 0x3D800000#32)) (V0 (Proc.devRef .tc main_v128_6)) : (Proc.devRef .tc main_while0b_v222 : DevRef τ sig).ty.Contents (Elt F)) = Cert.ReferenceIdeal.Step.b44 j s := by
  unfold Cert.ReferenceIdeal.Step.b44
  rw [← al_43 h, h.k_6]
  try rfl
set_option maxRecDepth 8192 in
theorem al_45 (h : Holds V0 s j) : (broadcastInDim S1x10x128x128 ![1, 2, 3] bcast_S10x128x128_S1x10x128x128_1_2_3 (mulf (broadcastInDim S10x128x128 ![] bcast_S_S10x128x128 (constant S_ .f32 0x3D800000#32)) (V0 (Proc.devRef .tc main_v128_6))) : (Proc.devRef .tc main_while0b_v223 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (broadcastInDim S2x10x128x128 ![0, 1, 2, 3] bcast_S1x10x128x128_S2x10x128x128_0_1_2_3 (broadcastInDim S1x10x128x128 ![1, 2, 3] bcast_S10x128x128_S1x10x128x128_1_2_3 (mulf (broadcastInDim S10x128x128 ![] bcast_S_S10x128x128 (constant S_ .f32 0x3D800000#32)) (V0 (Proc.devRef .tc main_v128_6)))) : (Proc.devRef .tc main_while0b_v224 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (mulf (mulf (mulf (Host.dotGeneral dot_S2x10x128x256_S2x10x128x256_S2x10x128x128_3_3_2_2_01_01 none (res_main_while0b_v206 V0) (res_main_while0b_v207 V0)) (broadcastInDim S2x10x128x128 ![0, 1, 2, 3] bcast_S2x10x128x1_S2x10x128x128_0_1_2_3 (broadcastInDim S2x10x128x1 ![0, 1, 2] bcast_S2x10x128_S2x10x128x1_0_1_2 (res_main_while0b_v209 V0)))) (broadcastInDim S2x10x128x128 ![0, 1, 2, 3] bcast_S2x10x1x128_S2x10x128x128_0_1_2_3 (broadcastInDim S2x10x1x128 ![0, 1, 3] bcast_S2x10x128_S2x10x1x128_0_1_3 (res_main_while0b_v210 V0)))) (broadcastInDim S2x10x128x128 ![0, 1, 2, 3] bcast_S1x10x128x128_S2x10x128x128_0_1_2_3 (broadcastInDim S1x10x128x128 ![1, 2, 3] bcast_S10x128x128_S1x10x128x128_1_2_3 (mulf (broadcastInDim S10x128x128 ![] bcast_S_S10x128x128 (constant S_ .f32 0x3D800000#32)) (V0 (Proc.devRef .tc main_v128_6))))) : (Proc.devRef .tc main_while0b_v225 : DevRef τ sig).ty.Contents (Elt F)) = Cert.ReferenceIdeal.Step.b47 j s := by
  unfold Cert.ReferenceIdeal.Step.b47
  rw [← al_41 h, ← al_46 h]
  try rfl
set_option maxRecDepth 8192 in
theorem al_48 (h : Holds V0 s j) : (truncf .bf16 (mulf (mulf (mulf (Host.dotGeneral dot_S2x10x128x256_S2x10x128x256_S2x10x128x128_3_3_2_2_01_01 none (res_main_while0b_v206 V0) (res_main_while0b_v207 V0)) (broadcastInDim S2x10x128x128 ![0, 1, 2, 3] bcast_S2x10x128x1_S2x10x128x128_0_1_2_3 (broadcastInDim S2x10x128x1 ![0, 1, 2] bcast_S2x10x128_S2x10x128x1_0_1_2 (res_main_while0b_v209 V0)))) (broadcastInDim S2x10x128x128 ![0, 1, 2, 3] bcast_S2x10x1x128_S2x10x128x128_0_1_2_3 (broadcastInDim S2x10x1x128 ![0, 1, 3] bcast_S2x10x128_S2x10x1x128_0_1_3 (res_main_while0b_v210 V0)))) (broadcastInDim S2x10x128x128 ![0, 1, 2, 3] bcast_S1x10x128x128_S2x10x128x128_0_1_2_3 (broadcastInDim S1x10x128x128 ![1, 2, 3] bcast_S10x128x128_S1x10x128x128_1_2_3 (mulf (broadcastInDim S10x128x128 ![] bcast_S_S10x128x128 (constant S_ .f32 0x3D800000#32)) (V0 (Proc.devRef .tc main_v128_6)))))) bitsLt_bf16_f32 : (Proc.devRef .tc main_while0b_v226 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (broadcastInDim S2x10x1x128 ![0, 1, 3] bcast_S2x10x128_S2x10x1x128_0_1_3 (res_main_while0b_v213 V0) : (Proc.devRef .tc main_while0b_v227 : DevRef τ sig).ty.Contents (Elt F)) = Cert.ReferenceIdeal.Step.b49 j s := by
  unfold Cert.ReferenceIdeal.Step.b49
  rw [← al_34 h]
  try rfl
set_option maxRecDepth 8192 in
theorem al_50 (h : Holds V0 s j) : (broadcastInDim S2x10x128x128 ![0, 1, 2, 3] bcast_S2x10x1x128_S2x10x128x128_0_1_2_3 (broadcastInDim S2x10x1x128 ![0, 1, 3] bcast_S2x10x128_S2x10x1x128_0_1_3 (res_main_while0b_v213 V0)) : (Proc.devRef .tc main_while0b_v228 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (mulf (truncf .bf16 (mulf (mulf (mulf (Host.dotGeneral dot_S2x10x128x256_S2x10x128x256_S2x10x128x128_3_3_2_2_01_01 none (res_main_while0b_v206 V0) (res_main_while0b_v207 V0)) (broadcastInDim S2x10x128x128 ![0, 1, 2, 3] bcast_S2x10x128x1_S2x10x128x128_0_1_2_3 (broadcastInDim S2x10x128x1 ![0, 1, 2] bcast_S2x10x128_S2x10x128x1_0_1_2 (res_main_while0b_v209 V0)))) (broadcastInDim S2x10x128x128 ![0, 1, 2, 3] bcast_S2x10x1x128_S2x10x128x128_0_1_2_3 (broadcastInDim S2x10x1x128 ![0, 1, 3] bcast_S2x10x128_S2x10x1x128_0_1_3 (res_main_while0b_v210 V0)))) (broadcastInDim S2x10x128x128 ![0, 1, 2, 3] bcast_S1x10x128x128_S2x10x128x128_0_1_2_3 (broadcastInDim S1x10x128x128 ![1, 2, 3] bcast_S10x128x128_S1x10x128x128_1_2_3 (mulf (broadcastInDim S10x128x128 ![] bcast_S_S10x128x128 (constant S_ .f32 0x3D800000#32)) (V0 (Proc.devRef .tc main_v128_6)))))) bitsLt_bf16_f32) (broadcastInDim S2x10x128x128 ![0, 1, 2, 3] bcast_S2x10x1x128_S2x10x128x128_0_1_2_3 (broadcastInDim S2x10x1x128 ![0, 1, 3] bcast_S2x10x128_S2x10x1x128_0_1_3 (res_main_while0b_v213 V0))) : (Proc.devRef .tc main_while0b_v229 : DevRef τ sig).ty.Contents (Elt F)) = Cert.ReferenceIdeal.Step.b51 j s := by
  unfold Cert.ReferenceIdeal.Step.b51
  rw [← al_48 h, ← al_50 h]
  try rfl
set_option maxRecDepth 8192 in
theorem al_52 (h : Holds V0 s j) : (Host.dotGeneral dot_S2x10x128x128_S2x10x128x512_S2x10x128x512_3_2_2_3_01_01 none (mulf (truncf .bf16 (mulf (mulf (mulf (Host.dotGeneral dot_S2x10x128x256_S2x10x128x256_S2x10x128x128_3_3_2_2_01_01 none (res_main_while0b_v206 V0) (res_main_while0b_v207 V0)) (broadcastInDim S2x10x128x128 ![0, 1, 2, 3] bcast_S2x10x128x1_S2x10x128x128_0_1_2_3 (broadcastInDim S2x10x128x1 ![0, 1, 2] bcast_S2x10x128_S2x10x128x1_0_1_2 (res_main_while0b_v209 V0)))) (broadcastInDim S2x10x128x128 ![0, 1, 2, 3] bcast_S2x10x1x128_S2x10x128x128_0_1_2_3 (broadcastInDim S2x10x1x128 ![0, 1, 3] bcast_S2x10x128_S2x10x1x128_0_1_3 (res_main_while0b_v210 V0)))) (broadcastInDim S2x10x128x128 ![0, 1, 2, 3] bcast_S1x10x128x128_S2x10x128x128_0_1_2_3 (broadcastInDim S1x10x128x128 ![1, 2, 3] bcast_S10x128x128_S1x10x128x128_1_2_3 (mulf (broadcastInDim S10x128x128 ![] bcast_S_S10x128x128 (constant S_ .f32 0x3D800000#32)) (V0 (Proc.devRef .tc main_v128_6)))))) bitsLt_bf16_f32) (broadcastInDim S2x10x128x128 ![0, 1, 2, 3] bcast_S2x10x1x128_S2x10x128x128_0_1_2_3 (broadcastInDim S2x10x1x128 ![0, 1, 3] bcast_S2x10x128_S2x10x1x128_0_1_3 (res_main_while0b_v213 V0)))) (res_main_while0b_v212 V0) : (Proc.devRef .tc main_while0b_v230 : DevRef τ sig).ty.Contents (Elt F)) = Cert.ReferenceIdeal.Step.b52 j s := by
  unfold Cert.ReferenceIdeal.Step.b52
  rw [← al_51 h, ← al_33 h]
  try rfl
set_option maxRecDepth 8192 in
theorem al_53 (h : Holds V0 s j) : (truncf .bf16 (V0 (Proc.devRef .tc main_v128_11)) bitsLt_bf16_f32 : (Proc.devRef .tc main_while0b_v231 : DevRef τ sig).ty.Contents (Elt F)) = Cert.ReferenceIdeal.Step.b53 j s := by
  unfold Cert.ReferenceIdeal.Step.b53
  rw [h.f_11]
  try rfl
set_option maxRecDepth 8192 in
theorem al_54 (h : Holds V0 s j) : (truncf .bf16 (res_main_while0b_v206 V0) bitsLt_bf16_f32 : (Proc.devRef .tc main_while0b_v232 : DevRef τ sig).ty.Contents (Elt F)) = Cert.ReferenceIdeal.Step.b54 j s := by
  unfold Cert.ReferenceIdeal.Step.b54
  rw [← al_5 h]
  try rfl
set_option maxRecDepth 8192 in
theorem al_55 (h : Holds V0 s j) : (Host.dotGeneral dot_S2x10x128x256_S2x10x256x512_S2x10x128x512_3_2_2_3_01_01 none (truncf .bf16 (res_main_while0b_v206 V0) bitsLt_bf16_f32) (truncf .bf16 (V0 (Proc.devRef .tc main_v128_11)) bitsLt_bf16_f32) : (Proc.devRef .tc main_while0b_v233 : DevRef τ sig).ty.Contents (Elt F)) = Cert.ReferenceIdeal.Step.b55 j s := by
  unfold Cert.ReferenceIdeal.Step.b55
  rw [← al_54 h, ← al_53 h]
  try rfl
set_option maxRecDepth 8192 in
theorem al_56 (h : Holds V0 s j) : (broadcastInDim S1x10x128 ![1, 2] bcast_S10x128_S1x10x128_1_2 (V0 (Proc.devRef .tc main_v128_7)) : (Proc.devRef .tc main_while0b_v234 : DevRef τ sig).ty.Contents (Elt F)) = Cert.ReferenceIdeal.Step.b56 j s := by
  unfold Cert.ReferenceIdeal.Step.b56
  rw [h.k_7]
  try rfl
set_option maxRecDepth 8192 in
theorem al_57 (h : Holds V0 s j) : (broadcastInDim S2x10x128 ![0, 1, 2] bcast_S1x10x128_S2x10x128_0_1_2 (broadcastInDim S1x10x128 ![1, 2] bcast_S10x128_S1x10x128_1_2 (V0 (Proc.devRef .tc main_v128_7))) : (Proc.devRef .tc main_while0b_v235 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (mulf (res_main_while0b_v209 V0) (broadcastInDim S2x10x128 ![0, 1, 2] bcast_S1x10x128_S2x10x128_0_1_2 (broadcastInDim S1x10x128 ![1, 2] bcast_S10x128_S1x10x128_1_2 (V0 (Proc.devRef .tc main_v128_7)))) : (Proc.devRef .tc main_while0b_v236 : DevRef τ sig).ty.Contents (Elt F)) = Cert.ReferenceIdeal.Step.b58 j s := by
  unfold Cert.ReferenceIdeal.Step.b58
  rw [← al_22 h, ← al_57 h]
  try rfl
set_option maxRecDepth 8192 in
theorem al_59 (h : Holds V0 s j) : (constant S_ .f32 0x3D800000#32 : (Proc.devRef .tc main_while0b_cst_77 : DevRef τ sig).ty.Contents (Elt F)) = Cert.ReferenceIdeal.Step.b59 j s := by
  unfold Cert.ReferenceIdeal.Step.b59
  rfl
set_option maxRecDepth 8192 in
theorem al_60 (h : Holds V0 s j) : (broadcastInDim S2x10x128 ![] bcast_S_S2x10x128 (constant S_ .f32 0x3D800000#32) : (Proc.devRef .tc main_while0b_v237 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (mulf (mulf (res_main_while0b_v209 V0) (broadcastInDim S2x10x128 ![0, 1, 2] bcast_S1x10x128_S2x10x128_0_1_2 (broadcastInDim S1x10x128 ![1, 2] bcast_S10x128_S1x10x128_1_2 (V0 (Proc.devRef .tc main_v128_7))))) (broadcastInDim S2x10x128 ![] bcast_S_S2x10x128 (constant S_ .f32 0x3D800000#32)) : (Proc.devRef .tc main_while0b_v238 : DevRef τ sig).ty.Contents (Elt F)) = Cert.ReferenceIdeal.Step.b61 j s := by
  unfold Cert.ReferenceIdeal.Step.b61
  rw [← al_58 h, ← al_60 h]
  try rfl
set_option maxRecDepth 8192 in
theorem al_62 (h : Holds V0 s j) : (broadcastInDim S2x10x128x1 ![0, 1, 2] bcast_S2x10x128_S2x10x128x1_0_1_2 (mulf (mulf (res_main_while0b_v209 V0) (broadcastInDim S2x10x128 ![0, 1, 2] bcast_S1x10x128_S2x10x128_0_1_2 (broadcastInDim S1x10x128 ![1, 2] bcast_S10x128_S1x10x128_1_2 (V0 (Proc.devRef .tc main_v128_7))))) (broadcastInDim S2x10x128 ![] bcast_S_S2x10x128 (constant S_ .f32 0x3D800000#32))) : (Proc.devRef .tc main_while0b_v239 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (broadcastInDim S2x10x128x512 ![0, 1, 2, 3] bcast_S2x10x128x1_S2x10x128x512_0_1_2_3 (broadcastInDim S2x10x128x1 ![0, 1, 2] bcast_S2x10x128_S2x10x128x1_0_1_2 (mulf (mulf (res_main_while0b_v209 V0) (broadcastInDim S2x10x128 ![0, 1, 2] bcast_S1x10x128_S2x10x128_0_1_2 (broadcastInDim S1x10x128 ![1, 2] bcast_S10x128_S1x10x128_1_2 (V0 (Proc.devRef .tc main_v128_7))))) (broadcastInDim S2x10x128 ![] bcast_S_S2x10x128 (constant S_ .f32 0x3D800000#32)))) : (Proc.devRef .tc main_while0b_v240 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (mulf (Host.dotGeneral dot_S2x10x128x256_S2x10x256x512_S2x10x128x512_3_2_2_3_01_01 none (truncf .bf16 (res_main_while0b_v206 V0) bitsLt_bf16_f32) (truncf .bf16 (V0 (Proc.devRef .tc main_v128_11)) bitsLt_bf16_f32)) (broadcastInDim S2x10x128x512 ![0, 1, 2, 3] bcast_S2x10x128x1_S2x10x128x512_0_1_2_3 (broadcastInDim S2x10x128x1 ![0, 1, 2] bcast_S2x10x128_S2x10x128x1_0_1_2 (mulf (mulf (res_main_while0b_v209 V0) (broadcastInDim S2x10x128 ![0, 1, 2] bcast_S1x10x128_S2x10x128_0_1_2 (broadcastInDim S1x10x128 ![1, 2] bcast_S10x128_S1x10x128_1_2 (V0 (Proc.devRef .tc main_v128_7))))) (broadcastInDim S2x10x128 ![] bcast_S_S2x10x128 (constant S_ .f32 0x3D800000#32))))) : (Proc.devRef .tc main_while0b_v241 : DevRef τ sig).ty.Contents (Elt F)) = Cert.ReferenceIdeal.Step.b64 j s := by
  unfold Cert.ReferenceIdeal.Step.b64
  rw [← al_55 h, ← al_63 h]
  try rfl
set_option maxRecDepth 8192 in
theorem al_65 (h : Holds V0 s j) : (broadcastInDim S2x10x128x1 ![0, 1, 2] bcast_S2x10x128_S2x10x128x1_0_1_2 (res_main_while0b_v210 V0) : (Proc.devRef .tc main_while0b_v242 : DevRef τ sig).ty.Contents (Elt F)) = Cert.ReferenceIdeal.Step.b65 j s := by
  unfold Cert.ReferenceIdeal.Step.b65
  rw [← al_27 h]
  try rfl
set_option maxRecDepth 8192 in
theorem al_66 (h : Holds V0 s j) : (broadcastInDim S2x10x128x256 ![0, 1, 2, 3] bcast_S2x10x128x1_S2x10x128x256_0_1_2_3 (broadcastInDim S2x10x128x1 ![0, 1, 2] bcast_S2x10x128_S2x10x128x1_0_1_2 (res_main_while0b_v210 V0)) : (Proc.devRef .tc main_while0b_v243 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (mulf (res_main_while0b_v207 V0) (broadcastInDim S2x10x128x256 ![0, 1, 2, 3] bcast_S2x10x128x1_S2x10x128x256_0_1_2_3 (broadcastInDim S2x10x128x1 ![0, 1, 2] bcast_S2x10x128_S2x10x128x1_0_1_2 (res_main_while0b_v210 V0))) : (Proc.devRef .tc main_while0b_v244 : DevRef τ sig).ty.Contents (Elt F)) = Cert.ReferenceIdeal.Step.b67 j s := by
  unfold Cert.ReferenceIdeal.Step.b67
  rw [← al_11 h, ← al_66 h]
  try rfl
set_option maxRecDepth 8192 in
theorem al_68 (h : Holds V0 s j) : (broadcastInDim S10x128x1 ![0, 1] bcast_S10x128_S10x128x1_0_1 (V0 (Proc.devRef .tc main_v128_8)) : (Proc.devRef .tc main_while0b_v245 : DevRef τ sig).ty.Contents (Elt F)) = Cert.ReferenceIdeal.Step.b68 j s := by
  unfold Cert.ReferenceIdeal.Step.b68
  rw [h.k_8]
  try rfl
set_option maxRecDepth 8192 in
theorem al_69 (h : Holds V0 s j) : (broadcastInDim S1x10x128x1 ![1, 2, 3] bcast_S10x128x1_S1x10x128x1_1_2_3 (broadcastInDim S10x128x1 ![0, 1] bcast_S10x128_S10x128x1_0_1 (V0 (Proc.devRef .tc main_v128_8))) : (Proc.devRef .tc main_while0b_v246 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (broadcastInDim S2x10x128x256 ![0, 1, 2, 3] bcast_S1x10x128x1_S2x10x128x256_0_1_2_3 (broadcastInDim S1x10x128x1 ![1, 2, 3] bcast_S10x128x1_S1x10x128x1_1_2_3 (broadcastInDim S10x128x1 ![0, 1] bcast_S10x128_S10x128x1_0_1 (V0 (Proc.devRef .tc main_v128_8)))) : (Proc.devRef .tc main_while0b_v247 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (mulf (mulf (res_main_while0b_v207 V0) (broadcastInDim S2x10x128x256 ![0, 1, 2, 3] bcast_S2x10x128x1_S2x10x128x256_0_1_2_3 (broadcastInDim S2x10x128x1 ![0, 1, 2] bcast_S2x10x128_S2x10x128x1_0_1_2 (res_main_while0b_v210 V0)))) (broadcastInDim S2x10x128x256 ![0, 1, 2, 3] bcast_S1x10x128x1_S2x10x128x256_0_1_2_3 (broadcastInDim S1x10x128x1 ![1, 2, 3] bcast_S10x128x1_S1x10x128x1_1_2_3 (broadcastInDim S10x128x1 ![0, 1] bcast_S10x128_S10x128x1_0_1 (V0 (Proc.devRef .tc main_v128_8))))) : (Proc.devRef .tc main_while0b_v248 : DevRef τ sig).ty.Contents (Elt F)) = Cert.ReferenceIdeal.Step.b71 j s := by
  unfold Cert.ReferenceIdeal.Step.b71
  rw [← al_67 h, ← al_70 h]
  try rfl
set_option maxRecDepth 8192 in
theorem al_72 (h : Holds V0 s j) : (truncf .bf16 (mulf (mulf (res_main_while0b_v207 V0) (broadcastInDim S2x10x128x256 ![0, 1, 2, 3] bcast_S2x10x128x1_S2x10x128x256_0_1_2_3 (broadcastInDim S2x10x128x1 ![0, 1, 2] bcast_S2x10x128_S2x10x128x1_0_1_2 (res_main_while0b_v210 V0)))) (broadcastInDim S2x10x128x256 ![0, 1, 2, 3] bcast_S1x10x128x1_S2x10x128x256_0_1_2_3 (broadcastInDim S1x10x128x1 ![1, 2, 3] bcast_S10x128x1_S1x10x128x1_1_2_3 (broadcastInDim S10x128x1 ![0, 1] bcast_S10x128_S10x128x1_0_1 (V0 (Proc.devRef .tc main_v128_8)))))) bitsLt_bf16_f32 : (Proc.devRef .tc main_while0b_v249 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (broadcastInDim S2x10x128x1 ![0, 1, 2] bcast_S2x10x128_S2x10x128x1_0_1_2 (res_main_while0b_v213 V0) : (Proc.devRef .tc main_while0b_v250 : DevRef τ sig).ty.Contents (Elt F)) = Cert.ReferenceIdeal.Step.b73 j s := by
  unfold Cert.ReferenceIdeal.Step.b73
  rw [← al_34 h]
  try rfl
set_option maxRecDepth 8192 in
theorem al_74 (h : Holds V0 s j) : (broadcastInDim S2x10x128x256 ![0, 1, 2, 3] bcast_S2x10x128x1_S2x10x128x256_0_1_2_3 (broadcastInDim S2x10x128x1 ![0, 1, 2] bcast_S2x10x128_S2x10x128x1_0_1_2 (res_main_while0b_v213 V0)) : (Proc.devRef .tc main_while0b_v251 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (mulf (truncf .bf16 (mulf (mulf (res_main_while0b_v207 V0) (broadcastInDim S2x10x128x256 ![0, 1, 2, 3] bcast_S2x10x128x1_S2x10x128x256_0_1_2_3 (broadcastInDim S2x10x128x1 ![0, 1, 2] bcast_S2x10x128_S2x10x128x1_0_1_2 (res_main_while0b_v210 V0)))) (broadcastInDim S2x10x128x256 ![0, 1, 2, 3] bcast_S1x10x128x1_S2x10x128x256_0_1_2_3 (broadcastInDim S1x10x128x1 ![1, 2, 3] bcast_S10x128x1_S1x10x128x1_1_2_3 (broadcastInDim S10x128x1 ![0, 1] bcast_S10x128_S10x128x1_0_1 (V0 (Proc.devRef .tc main_v128_8)))))) bitsLt_bf16_f32) (broadcastInDim S2x10x128x256 ![0, 1, 2, 3] bcast_S2x10x128x1_S2x10x128x256_0_1_2_3 (broadcastInDim S2x10x128x1 ![0, 1, 2] bcast_S2x10x128_S2x10x128x1_0_1_2 (res_main_while0b_v213 V0))) : (Proc.devRef .tc main_while0b_v252 : DevRef τ sig).ty.Contents (Elt F)) = Cert.ReferenceIdeal.Step.b75 j s := by
  unfold Cert.ReferenceIdeal.Step.b75
  rw [← al_72 h, ← al_74 h]
  try rfl
set_option maxRecDepth 8192 in
theorem al_76 (h : Holds V0 s j) : (Host.dotGeneral dot_S2x10x128x256_S2x10x128x512_S2x10x256x512_2_2_3_3_01_01 none (mulf (truncf .bf16 (mulf (mulf (res_main_while0b_v207 V0) (broadcastInDim S2x10x128x256 ![0, 1, 2, 3] bcast_S2x10x128x1_S2x10x128x256_0_1_2_3 (broadcastInDim S2x10x128x1 ![0, 1, 2] bcast_S2x10x128_S2x10x128x1_0_1_2 (res_main_while0b_v210 V0)))) (broadcastInDim S2x10x128x256 ![0, 1, 2, 3] bcast_S1x10x128x1_S2x10x128x256_0_1_2_3 (broadcastInDim S1x10x128x1 ![1, 2, 3] bcast_S10x128x1_S1x10x128x1_1_2_3 (broadcastInDim S10x128x1 ![0, 1] bcast_S10x128_S10x128x1_0_1 (V0 (Proc.devRef .tc main_v128_8)))))) bitsLt_bf16_f32) (broadcastInDim S2x10x128x256 ![0, 1, 2, 3] bcast_S2x10x128x1_S2x10x128x256_0_1_2_3 (broadcastInDim S2x10x128x1 ![0, 1, 2] bcast_S2x10x128_S2x10x128x1_0_1_2 (res_main_while0b_v213 V0)))) (res_main_while0b_v212 V0) : (Proc.devRef .tc main_while0b_v253 : DevRef τ sig).ty.Contents (Elt F)) = Cert.ReferenceIdeal.Step.b76 j s := by
  unfold Cert.ReferenceIdeal.Step.b76
  rw [← al_75 h, ← al_33 h]
  try rfl
set_option maxRecDepth 8192 in
theorem al_77 (h : Holds V0 s j) : (res_main_while0b_v254 V0 : (Proc.devRef .tc main_while0b_v254 : DevRef τ sig).ty.Contents (Elt F)) = Cert.ReferenceIdeal.Step.b77 j s := by
  unfold res_main_while0b_v254 Cert.ReferenceIdeal.Step.b77
  rw [← al_52 h, ← al_64 h]
  try rfl
set_option maxRecDepth 8192 in
theorem al_78 (h : Holds V0 s j) : (constant S_ .f32 0x00000000#32 : (Proc.devRef .tc main_while0b_cst_78 : DevRef τ sig).ty.Contents (Elt F)) = Cert.ReferenceIdeal.Step.b78 j s := by
  unfold Cert.ReferenceIdeal.Step.b78
  rfl
set_option maxRecDepth 8192 in
theorem al_79 (h : Holds V0 s j) : (Host.reduceAdd (res_main_while0b_v254 V0) (constant S_ .f32 0x00000000#32) reducesTo_S2x10x128x512_S2x10x128_d3 h_S_ : (Proc.devRef .tc main_while0b_v255 : DevRef τ sig).ty.Contents (Elt F)) = Cert.ReferenceIdeal.Step.b79 j s := by
  unfold Cert.ReferenceIdeal.Step.b79
  rw [← al_77 h, ← al_78 h]
  try rfl
set_option maxRecDepth 8192 in
theorem al_80 (h : Holds V0 s j) : (broadcastInDim S2x10x128x1 ![0, 1, 2] bcast_S2x10x128_S2x10x128x1_0_1_2 (Host.reduceAdd (res_main_while0b_v254 V0) (constant S_ .f32 0x00000000#32) reducesTo_S2x10x128x512_S2x10x128_d3 h_S_) : (Proc.devRef .tc main_while0b_v256 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (constant S_ .f32 0x44000000#32 : (Proc.devRef .tc main_while0b_cst_79 : DevRef τ sig).ty.Contents (Elt F)) = Cert.ReferenceIdeal.Step.b81 j s := by
  unfold Cert.ReferenceIdeal.Step.b81
  rfl
set_option maxRecDepth 8192 in
theorem al_82 (h : Holds V0 s j) : (broadcastInDim S2x10x128x1 ![] bcast_S_S2x10x128x1 (constant S_ .f32 0x44000000#32) : (Proc.devRef .tc main_while0b_v257 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (Host.divf (broadcastInDim S2x10x128x1 ![0, 1, 2] bcast_S2x10x128_S2x10x128x1_0_1_2 (Host.reduceAdd (res_main_while0b_v254 V0) (constant S_ .f32 0x00000000#32) reducesTo_S2x10x128x512_S2x10x128_d3 h_S_)) (broadcastInDim S2x10x128x1 ![] bcast_S_S2x10x128x1 (constant S_ .f32 0x44000000#32)) : (Proc.devRef .tc main_while0b_v258 : DevRef τ sig).ty.Contents (Elt F)) = Cert.ReferenceIdeal.Step.b83 j s := by
  unfold Cert.ReferenceIdeal.Step.b83
  rw [← al_80 h, ← al_82 h]
  try rfl
set_option maxRecDepth 8192 in
theorem al_84 (h : Holds V0 s j) : (broadcastInDim S2x10x128x512 ![0, 1, 2, 3] bcast_S2x10x128x1_S2x10x128x512_0_1_2_3 (Host.divf (broadcastInDim S2x10x128x1 ![0, 1, 2] bcast_S2x10x128_S2x10x128x1_0_1_2 (Host.reduceAdd (res_main_while0b_v254 V0) (constant S_ .f32 0x00000000#32) reducesTo_S2x10x128x512_S2x10x128_d3 h_S_)) (broadcastInDim S2x10x128x1 ![] bcast_S_S2x10x128x1 (constant S_ .f32 0x44000000#32))) : (Proc.devRef .tc main_while0b_v259 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (res_main_while0b_v260 V0 : (Proc.devRef .tc main_while0b_v260 : DevRef τ sig).ty.Contents (Elt F)) = Cert.ReferenceIdeal.Step.b85 j s := by
  unfold res_main_while0b_v260 Cert.ReferenceIdeal.Step.b85
  rw [← al_77 h, ← al_84 h]
  try rfl
set_option maxRecDepth 8192 in
theorem al_86 (h : Holds V0 s j) : (mulf (res_main_while0b_v260 V0) (res_main_while0b_v260 V0) : (Proc.devRef .tc main_while0b_v261 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (constant S_ .f32 0x00000000#32 : (Proc.devRef .tc main_while0b_cst_80 : DevRef τ sig).ty.Contents (Elt F)) = Cert.ReferenceIdeal.Step.b87 j s := by
  unfold Cert.ReferenceIdeal.Step.b87
  rfl
set_option maxRecDepth 8192 in
theorem al_88 (h : Holds V0 s j) : (Host.reduceAdd (mulf (res_main_while0b_v260 V0) (res_main_while0b_v260 V0)) (constant S_ .f32 0x00000000#32) reducesTo_S2x10x128x512_S2x10x128_d3 h_S_ : (Proc.devRef .tc main_while0b_v262 : DevRef τ sig).ty.Contents (Elt F)) = Cert.ReferenceIdeal.Step.b88 j s := by
  unfold Cert.ReferenceIdeal.Step.b88
  rw [← al_86 h, ← al_87 h]
  try rfl
set_option maxRecDepth 8192 in
theorem al_89 (h : Holds V0 s j) : (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_) : (Proc.devRef .tc main_while0b_v263 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (constant S_ .f32 0x44000000#32 : (Proc.devRef .tc main_while0b_cst_81 : DevRef τ sig).ty.Contents (Elt F)) = Cert.ReferenceIdeal.Step.b90 j s := by
  unfold Cert.ReferenceIdeal.Step.b90
  rfl
set_option maxRecDepth 8192 in
theorem al_91 (h : Holds V0 s j) : (broadcastInDim S2x10x128x1 ![] bcast_S_S2x10x128x1 (constant S_ .f32 0x44000000#32) : (Proc.devRef .tc main_while0b_v264 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32)) : (Proc.devRef .tc main_while0b_v265 : DevRef τ sig).ty.Contents (Elt F)) = Cert.ReferenceIdeal.Step.b92 j s := by
  unfold Cert.ReferenceIdeal.Step.b92
  rw [← al_89 h, ← al_91 h]
  try rfl
set_option maxRecDepth 8192 in
theorem al_93 (h : Holds V0 s j) : (constant S_ .f32 0x3727C5AC#32 : (Proc.devRef .tc main_while0b_cst_82 : DevRef τ sig).ty.Contents (Elt F)) = Cert.ReferenceIdeal.Step.b93 j s := by
  unfold Cert.ReferenceIdeal.Step.b93
  rfl
set_option maxRecDepth 8192 in
theorem al_94 (h : Holds V0 s j) : (broadcastInDim S2x10x128x1 ![] bcast_S_S2x10x128x1 (constant S_ .f32 0x3727C5AC#32) : (Proc.devRef .tc main_while0b_v266 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32)) : (Proc.devRef .tc main_while0b_v267 : DevRef τ sig).ty.Contents (Elt F)) = Cert.ReferenceIdeal.Step.b95 j s := by
  unfold Cert.ReferenceIdeal.Step.b95
  rw [← al_92 h, ← al_94 h]
  try rfl
set_option maxRecDepth 8192 in
theorem al_96 (h : Holds V0 s j) : (Host.rsqrt (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32))) : (Proc.devRef .tc main_while0b_v268 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (broadcastInDim S2x10x128x512 ![0, 1, 2, 3] bcast_S2x10x128x1_S2x10x128x512_0_1_2_3 (Host.rsqrt (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32)))) : (Proc.devRef .tc main_while0b_v269 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (mulf (res_main_while0b_v260 V0) (broadcastInDim S2x10x128x512 ![0, 1, 2, 3] bcast_S2x10x128x1_S2x10x128x512_0_1_2_3 (Host.rsqrt (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32))))) : (Proc.devRef .tc main_while0b_v270 : DevRef τ sig).ty.Contents (Elt F)) = Cert.ReferenceIdeal.Step.b98 j s := by
  unfold Cert.ReferenceIdeal.Step.b98
  rw [← al_85 h, ← al_97 h]
  try rfl
set_option maxRecDepth 8192 in
theorem al_99 (h : Holds V0 s j) : (truncf .bf16 (mulf (res_main_while0b_v260 V0) (broadcastInDim S2x10x128x512 ![0, 1, 2, 3] bcast_S2x10x128x1_S2x10x128x512_0_1_2_3 (Host.rsqrt (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32)))))) bitsLt_bf16_f32 : (Proc.devRef .tc main_while0b_v271 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (transpose S2x128x10x512 [0, 2, 1, 3] (truncf .bf16 (mulf (res_main_while0b_v260 V0) (broadcastInDim S2x10x128x512 ![0, 1, 2, 3] bcast_S2x10x128x1_S2x10x128x512_0_1_2_3 (Host.rsqrt (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32)))))) bitsLt_bf16_f32) transposes_S2x10x128x512_S2x128x10x512_0_2_1_3 : (Proc.devRef .tc main_while0b_v272 : DevRef τ sig).ty.Contents (Elt F)) = Cert.ReferenceIdeal.Step.b100 j s := by
  unfold Cert.ReferenceIdeal.Step.b100
  rw [← al_99 h]
  try rfl
set_option maxRecDepth 8192 in
theorem al_101 (h : Holds V0 s j) : (broadcastInDim S1x10x1x1 ![1, 2, 3] bcast_S10x1x1_S1x10x1x1_1_2_3 (V0 (Proc.devRef .tc main_v128_9)) : (Proc.devRef .tc main_while0b_v273 : DevRef τ sig).ty.Contents (Elt F)) = Cert.ReferenceIdeal.Step.b101 j s := by
  unfold Cert.ReferenceIdeal.Step.b101
  rw [h.k_9]
  try rfl
set_option maxRecDepth 8192 in
theorem al_102 (h : Holds V0 s j) : (broadcastInDim S2x10x256x512 ![0, 1, 2, 3] bcast_S1x10x1x1_S2x10x256x512_0_1_2_3 (broadcastInDim S1x10x1x1 ![1, 2, 3] bcast_S10x1x1_S1x10x1x1_1_2_3 (V0 (Proc.devRef .tc main_v128_9))) : (Proc.devRef .tc main_while0b_v274 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (mulf (broadcastInDim S2x10x256x512 ![0, 1, 2, 3] bcast_S1x10x1x1_S2x10x256x512_0_1_2_3 (broadcastInDim S1x10x1x1 ![1, 2, 3] bcast_S10x1x1_S1x10x1x1_1_2_3 (V0 (Proc.devRef .tc main_v128_9)))) (V0 (Proc.devRef .tc main_v128_11)) : (Proc.devRef .tc main_while0b_v275 : DevRef τ sig).ty.Contents (Elt F)) = Cert.ReferenceIdeal.Step.b103 j s := by
  unfold Cert.ReferenceIdeal.Step.b103
  rw [← al_102 h, h.f_11]
  try rfl
set_option maxRecDepth 8192 in
theorem al_104 (h : Holds V0 s j) : (addf (mulf (broadcastInDim S2x10x256x512 ![0, 1, 2, 3] bcast_S1x10x1x1_S2x10x256x512_0_1_2_3 (broadcastInDim S1x10x1x1 ![1, 2, 3] bcast_S10x1x1_S1x10x1x1_1_2_3 (V0 (Proc.devRef .tc main_v128_9)))) (V0 (Proc.devRef .tc main_v128_11))) (Host.dotGeneral dot_S2x10x128x256_S2x10x128x512_S2x10x256x512_2_2_3_3_01_01 none (mulf (truncf .bf16 (mulf (mulf (res_main_while0b_v207 V0) (broadcastInDim S2x10x128x256 ![0, 1, 2, 3] bcast_S2x10x128x1_S2x10x128x256_0_1_2_3 (broadcastInDim S2x10x128x1 ![0, 1, 2] bcast_S2x10x128_S2x10x128x1_0_1_2 (res_main_while0b_v210 V0)))) (broadcastInDim S2x10x128x256 ![0, 1, 2, 3] bcast_S1x10x128x1_S2x10x128x256_0_1_2_3 (broadcastInDim S1x10x128x1 ![1, 2, 3] bcast_S10x128x1_S1x10x128x1_1_2_3 (broadcastInDim S10x128x1 ![0, 1] bcast_S10x128_S10x128x1_0_1 (V0 (Proc.devRef .tc main_v128_8)))))) bitsLt_bf16_f32) (broadcastInDim S2x10x128x256 ![0, 1, 2, 3] bcast_S2x10x128x1_S2x10x128x256_0_1_2_3 (broadcastInDim S2x10x128x1 ![0, 1, 2] bcast_S2x10x128_S2x10x128x1_0_1_2 (res_main_while0b_v213 V0)))) (res_main_while0b_v212 V0)) : (Proc.devRef .tc main_while0b_v276 : DevRef τ sig).ty.Contents (Elt F)) = Cert.ReferenceIdeal.Step.b104 j s := by
  unfold Cert.ReferenceIdeal.Step.b104
  rw [← al_103 h, ← al_76 h]
  try rfl
set_option maxRecDepth 8192 in
theorem al_105 (h : Holds V0 s j) : (broadcastInDim S1x2x128x10x512 ![1, 2, 3, 4] bcast_S2x128x10x512_S1x2x128x10x512_1_2_3_4 (transpose S2x128x10x512 [0, 2, 1, 3] (truncf .bf16 (mulf (res_main_while0b_v260 V0) (broadcastInDim S2x10x128x512 ![0, 1, 2, 3] bcast_S2x10x128x1_S2x10x128x512_0_1_2_3 (Host.rsqrt (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32)))))) bitsLt_bf16_f32) transposes_S2x10x128x512_S2x128x10x512_0_2_1_3) : (Proc.devRef .tc main_while0b_call14_v0 : DevRef τ sig).ty.Contents (Elt F)) = Cert.ReferenceIdeal.Step.b105 j s := by
  unfold Cert.ReferenceIdeal.Step.b105
  rw [← al_100 h]
  try rfl
set_option maxRecDepth 8192 in
theorem al_106 (h : Holds V0 s j) : (constantI S_ 32 0#32 : (Proc.devRef .tc main_while0b_call14_c : DevRef τ sig).ty.Contents (Elt F)) = Cert.ReferenceIdeal.Step.b106 j s := by
  unfold Cert.ReferenceIdeal.Step.b106
  rfl
set_option maxRecDepth 8192 in
theorem al_107 (h : Holds V0 s j) : (constantI S_ 32 0#32 : (Proc.devRef .tc main_while0b_call14_c_0 : DevRef τ sig).ty.Contents (Elt F)) = Cert.ReferenceIdeal.Step.b107 j s := by
  unfold Cert.ReferenceIdeal.Step.b107
  rfl
set_option maxRecDepth 8192 in
theorem al_108 (h : Holds V0 s j) : (constantI S_ 32 0#32 : (Proc.devRef .tc main_while0b_call14_c_1 : DevRef τ sig).ty.Contents (Elt F)) = Cert.ReferenceIdeal.Step.b108 j s := by
  unfold Cert.ReferenceIdeal.Step.b108
  rfl
set_option maxRecDepth 8192 in
theorem al_109 (h : Holds V0 s j) : (constantI S_ 32 0#32 : (Proc.devRef .tc main_while0b_call14_c_2 : DevRef τ sig).ty.Contents (Elt F)) = Cert.ReferenceIdeal.Step.b109 j s := by
  unfold Cert.ReferenceIdeal.Step.b109
  rfl
set_option maxRecDepth 8192 in
theorem al_110 (h : Holds V0 s j) : (Host.dynamicUpdateSlice (V0 (Proc.devRef .tc main_v128_12)) (broadcastInDim S1x2x128x10x512 ![1, 2, 3, 4] bcast_S2x128x10x512_S1x2x128x10x512_1_2_3_4 (transpose S2x128x10x512 [0, 2, 1, 3] (truncf .bf16 (mulf (res_main_while0b_v260 V0) (broadcastInDim S2x10x128x512 ![0, 1, 2, 3] bcast_S2x10x128x1_S2x10x128x512_0_1_2_3 (Host.rsqrt (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32)))))) bitsLt_bf16_f32) transposes_S2x10x128x512_S2x128x10x512_0_2_1_3)) (fun k => (((![V0 (Proc.devRef .tc main_v128_10), constantI S_ 32 0#32, constantI S_ 32 0#32, constantI S_ 32 0#32, constantI S_ 32 0#32] : Fin 5 → (⟨S_, .i32⟩ : BufTy).Contents (Elt F))) k (Shape.Idx.first h_S_)).toInt) updateFits_S8x2x128x10x512_S1x2x128x10x512 : (Proc.devRef .tc main_while0b_v277 : DevRef τ sig).ty.Contents (Elt F)) = Cert.ReferenceIdeal.Step.b110 j s := by
  unfold Cert.ReferenceIdeal.Step.b110
  rw [← al_105 h, ← al_106 h, ← al_107 h, ← al_108 h, ← al_109 h, h.f_12, h.n_10]
  try rfl

/-! One trip's step of the carried values is `step`, field by field; a counter steps to the next number. -/

theorem step_11 (h : Holds V0 s j) : step_main_v128_11 V0 = (step j s).main_v128_11 := by
  unfold step_main_v128_11 Cert.ReferenceIdeal.Step.step
  show id (addf (mulf (broadcastInDim S2x10x256x512 ![0, 1, 2, 3] bcast_S1x10x1x1_S2x10x256x512_0_1_2_3 (broadcastInDim S1x10x1x1 ![1, 2, 3] bcast_S10x1x1_S1x10x1x1_1_2_3 (V0 (Proc.devRef .tc main_v128_9)))) (V0 (Proc.devRef .tc main_v128_11))) (Host.dotGeneral dot_S2x10x128x256_S2x10x128x512_S2x10x256x512_2_2_3_3_01_01 none (mulf (truncf .bf16 (mulf (mulf (res_main_while0b_v207 V0) (broadcastInDim S2x10x128x256 ![0, 1, 2, 3] bcast_S2x10x128x1_S2x10x128x256_0_1_2_3 (broadcastInDim S2x10x128x1 ![0, 1, 2] bcast_S2x10x128_S2x10x128x1_0_1_2 (res_main_while0b_v210 V0)))) (broadcastInDim S2x10x128x256 ![0, 1, 2, 3] bcast_S1x10x128x1_S2x10x128x256_0_1_2_3 (broadcastInDim S1x10x128x1 ![1, 2, 3] bcast_S10x128x1_S1x10x128x1_1_2_3 (broadcastInDim S10x128x1 ![0, 1] bcast_S10x128_S10x128x1_0_1 (V0 (Proc.devRef .tc main_v128_8)))))) bitsLt_bf16_f32) (broadcastInDim S2x10x128x256 ![0, 1, 2, 3] bcast_S2x10x128x1_S2x10x128x256_0_1_2_3 (broadcastInDim S2x10x128x1 ![0, 1, 2] bcast_S2x10x128_S2x10x128x1_0_1_2 (res_main_while0b_v213 V0)))) (res_main_while0b_v212 V0))) = _
  rw [al_104 h]
  try rfl
theorem step_12 (h : Holds V0 s j) : step_main_v128_12 V0 = (step j s).main_v128_12 := by
  unfold step_main_v128_12 Cert.ReferenceIdeal.Step.step
  show id (Host.dynamicUpdateSlice (V0 (Proc.devRef .tc main_v128_12)) (broadcastInDim S1x2x128x10x512 ![1, 2, 3, 4] bcast_S2x128x10x512_S1x2x128x10x512_1_2_3_4 (transpose S2x128x10x512 [0, 2, 1, 3] (truncf .bf16 (mulf (res_main_while0b_v260 V0) (broadcastInDim S2x10x128x512 ![0, 1, 2, 3] bcast_S2x10x128x1_S2x10x128x512_0_1_2_3 (Host.rsqrt (addf (Host.divf (broadcastInDim S2x10x128x1 ![0, 1, 2] bcast_S2x10x128_S2x10x128x1_0_1_2 (Host.reduceAdd (mulf (res_main_while0b_v260 V0) (res_main_while0b_v260 V0)) (constant S_ .f32 0x00000000#32) reducesTo_S2x10x128x512_S2x10x128_d3 h_S_)) (broadcastInDim S2x10x128x1 ![] bcast_S_S2x10x128x1 (constant S_ .f32 0x44000000#32))) (broadcastInDim S2x10x128x1 ![] bcast_S_S2x10x128x1 (constant S_ .f32 0x3727C5AC#32)))))) bitsLt_bf16_f32) transposes_S2x10x128x512_S2x128x10x512_0_2_1_3)) (fun k => (((![V0 (Proc.devRef .tc main_v128_10), constantI S_ 32 0#32, constantI S_ 32 0#32, constantI S_ 32 0#32, constantI S_ 32 0#32] : Fin 5 → (⟨S_, .i32⟩ : BufTy).Contents (Elt F))) k (Shape.Idx.first h_S_)).toInt) updateFits_S8x2x128x10x512_S1x2x128x10x512) = _
  exact al_110 h
theorem step_10 (h : Holds V0 s j) : step_main_v128_10 V0 = constantI S_ 32 (BitVec.ofNat 32 (j + 1)) := by
  unfold step_main_v128_10
  rw [h.n_10]
  funext i
  show BitVec.ofNat 32 j + 1#32 = BitVec.ofNat 32 (j + 1)
  simp only [BitVec.ofNat_add]

set_option maxRecDepth 8192 in
theorem out_main_v130_holds (h : Holds V0 s j) : out_main_v130 V0 = Cert.ReferenceIdeal.Step.R_main_v130 s := by
  unfold out_main_v130 Cert.ReferenceIdeal.Step.R_main_v130
  rw [h.f_12]
  try rfl

set_option maxRecDepth 8192 in
theorem out_main_v154_holds (h : Holds V0 s j) {x_main_arg0 : (⟨S2x1024x10x256, .bf16⟩ : BufTy).Contents (Elt F)} (h_main_arg0 : V0 (Proc.devRef .tc main_arg0) = x_main_arg0) : out_main_v154 V0 = Cert.ReferenceIdeal.Step.R_main_v154 s x_main_arg0 := by
  unfold out_main_v154 Cert.ReferenceIdeal.Step.R_main_v154
  rw [h_main_arg0]
  try rfl

set_option maxRecDepth 8192 in
theorem out_main_v155_holds (h : Holds V0 s j) {x_main_arg0 : (⟨S2x1024x10x256, .bf16⟩ : BufTy).Contents (Elt F)} (h_main_arg0 : V0 (Proc.devRef .tc main_arg0) = x_main_arg0) : out_main_v155 V0 = Cert.ReferenceIdeal.Step.R_main_v155 s x_main_arg0 := by
  unfold out_main_v155 Cert.ReferenceIdeal.Step.R_main_v155
  rw [h_main_arg0]
  try rfl

set_option maxRecDepth 8192 in
theorem out_main_v179_holds (h : Holds V0 s j) {x_main_arg1 : (⟨S2x1024x10x256, .bf16⟩ : BufTy).Contents (Elt F)} (h_main_arg1 : V0 (Proc.devRef .tc main_arg1) = x_main_arg1) : out_main_v179 V0 = Cert.ReferenceIdeal.Step.R_main_v179 s x_main_arg1 := by
  unfold out_main_v179 Cert.ReferenceIdeal.Step.R_main_v179
  rw [h_main_arg1]
  try rfl

set_option maxRecDepth 8192 in
theorem out_main_v180_holds (h : Holds V0 s j) {x_main_arg1 : (⟨S2x1024x10x256, .bf16⟩ : BufTy).Contents (Elt F)} (h_main_arg1 : V0 (Proc.devRef .tc main_arg1) = x_main_arg1) : out_main_v180 V0 = Cert.ReferenceIdeal.Step.R_main_v180 s x_main_arg1 := by
  unfold out_main_v180 Cert.ReferenceIdeal.Step.R_main_v180
  rw [h_main_arg1]
  try rfl

set_option maxRecDepth 8192 in
theorem out_main_v204_holds (h : Holds V0 s j) {x_main_arg2 : (⟨S2x1024x10x512, .bf16⟩ : BufTy).Contents (Elt F)} (h_main_arg2 : V0 (Proc.devRef .tc main_arg2) = x_main_arg2) : out_main_v204 V0 = Cert.ReferenceIdeal.Step.R_main_v204 s x_main_arg2 := by
  unfold out_main_v204 Cert.ReferenceIdeal.Step.R_main_v204
  rw [h_main_arg2]
  try rfl

set_option maxRecDepth 8192 in
theorem out_main_v205_holds (h : Holds V0 s j) {x_main_arg2 : (⟨S2x1024x10x512, .bf16⟩ : BufTy).Contents (Elt F)} (h_main_arg2 : V0 (Proc.devRef .tc main_arg2) = x_main_arg2) : out_main_v205 V0 = Cert.ReferenceIdeal.Step.R_main_v205 s x_main_arg2 := by
  unfold out_main_v205 Cert.ReferenceIdeal.Step.R_main_v205
  rw [h_main_arg2]
  try rfl

/-- One trip keeps the valuation holding: `step` of the state, the same set-up values, the next number. -/
theorem holds_step (h : Holds V0 s j) : Holds (STEP V0) (step j s) (j + 1) where
  f_11 := (STEP_main_v128_11 V0).trans (step_11 h)
  f_12 := (STEP_main_v128_12 V0).trans (step_12 h)
  n_10 := (STEP_main_v128_10 V0).trans (step_10 h)
  k_6 := (STEP_main_v128_6 V0).trans h.k_6
  k_7 := (STEP_main_v128_7 V0).trans h.k_7
  k_8 := (STEP_main_v128_8 V0).trans h.k_8
  k_9 := (STEP_main_v128_9 V0).trans h.k_9
  f_0 := (STEP_main_v128_0 V0).trans h.f_0
  f_1 := (STEP_main_v128_1 V0).trans h.f_1
  f_2 := (STEP_main_v128_2 V0).trans h.f_2
  f_3 := (STEP_main_v128_3 V0).trans h.f_3
  f_4 := (STEP_main_v128_4 V0).trans h.f_4
  f_5 := (STEP_main_v128_5 V0).trans h.f_5

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 1200000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v130) = Cert.ReferenceIdeal.Step.R_main_v130 (it c 8)
      ∧ r.2.mem ((c.tc : Thread nD τ).loc main_v128_11) = (it c 8).main_v128_11
      ∧ r.2.mem ((c.tc : Thread nD τ).loc main_v154) = Cert.ReferenceIdeal.Step.R_main_v154 (it c 8) (m ((c.tc : Thread nD τ).loc main_arg0))
      ∧ r.2.mem ((c.tc : Thread nD τ).loc main_v155) = Cert.ReferenceIdeal.Step.R_main_v155 (it c 8) (m ((c.tc : Thread nD τ).loc main_arg0))
      ∧ r.2.mem ((c.tc : Thread nD τ).loc main_v179) = Cert.ReferenceIdeal.Step.R_main_v179 (it c 8) (m ((c.tc : Thread nD τ).loc main_arg1))
      ∧ r.2.mem ((c.tc : Thread nD τ).loc main_v180) = Cert.ReferenceIdeal.Step.R_main_v180 (it c 8) (m ((c.tc : Thread nD τ).loc main_arg1))
      ∧ r.2.mem ((c.tc : Thread nD τ).loc main_v204) = Cert.ReferenceIdeal.Step.R_main_v204 (it c 8) (m ((c.tc : Thread nD τ).loc main_arg2))
      ∧ r.2.mem ((c.tc : Thread nD τ).loc main_v205) = Cert.ReferenceIdeal.Step.R_main_v205 (it c 8) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 8
    ⟨(h c).1.trans (out_main_v130_holds hk), (h c).2.1.trans hk.f_11, (h c).2.2.1.trans (out_main_v154_holds hk (iter_main_arg0 m c 8)), (h c).2.2.2.1.trans (out_main_v155_holds hk (iter_main_arg0 m c 8)), (h c).2.2.2.2.1.trans (out_main_v179_holds hk (iter_main_arg1 m c 8)), (h c).2.2.2.2.2.1.trans (out_main_v180_holds hk (iter_main_arg1 m c 8)), (h c).2.2.2.2.2.2.1.trans (out_main_v204_holds hk (iter_main_arg2 m c 8)), (h c).2.2.2.2.2.2.2.1.trans (out_main_v205_holds hk (iter_main_arg2 m c 8)), (h c).2.2.2.2.2.2.2.2.1, (h c).2.2.2.2.2.2.2.2.2.1, (h c).2.2.2.2.2.2.2.2.2.2.1, (h c).2.2.2.2.2.2.2.2.2.2.2⟩) (Value.run m ρ)

end Cert.ReferenceIdeal.StepRun

end
-- ==== Proof.Spec.lean ====
/-
  What one head of one batch entry computes over the extended reals, as scalar formulas.

  Both programs are read against these formulas: the kernel's stored blocks and the reference's arrays.  Literals are
  kept as the words the two programs hold.
-/
module

public import Idealize.ShloMosaic.Lib.Pointwise

@[expose] public section

noncomputable section

namespace Cert.Retention

open Idealize.ShloMosaic

/-- The largest magnitude of a row, over -∞. -/
def amaxS {n : ℕ} (f : Fin n → EReal) : EReal :=
  Finset.fold max (Ideal.ofBits .f32 4286578688#32) (fun d => FloatOps.absf (F := Ideal) (φ := .f32) (f d)) Finset.univ

/-- The exponent of the scale of a row whose largest magnitude is `a`. -/
def expoS (a : EReal) : EReal :=
  if a * Ideal.ofBits .f32 991054117#32 = 0 then 0
  else Ideal.liftRound Int.floor (Ideal.div (Ideal.log (a * Ideal.ofBits .f32 991054117#32))
    (Ideal.log (Ideal.ofBits .f32 1073741824#32))) + 1

/-- The scale. -/
def scaleS (a : EReal) : EReal := Ideal.exp2 (expoS a)

/-- The code of the entry `x` of a row whose largest magnitude is `a`. -/
def codeS (a x : EReal) : EReal :=
  min (max (x * Ideal.exp2 (-(expoS a))) (Ideal.ofBits .f32 3286237184#32)) (Ideal.ofBits .f32 1138753536#32)

/-- One head of one batch entry: its rows of q, k and v by chunk and token, its starting state and its log decay. -/
structure Head where
  q : Fin 8 → Fin 128 → Fin 256 → EReal
  k : Fin 8 → Fin 128 → Fin 256 → EReal
  v : Fin 8 → Fin 128 → Fin 512 → EReal
  s : Fin 256 → Fin 512 → EReal
  lg : EReal

/-- The log decay of each head: the ten words both programs hold. -/
def lgS : Fin 10 → EReal := ![Ideal.ofBits .f32 0xBD020AEC#32, Ideal.ofBits .f32 0xBC945E70#32, Ideal.ofBits .f32 0xBC29C60A#32,
  Ideal.ofBits .f32 0xBBC2969E#32, Ideal.ofBits .f32 0xBB5F3DA1#32, Ideal.ofBits .f32 0xBB00200B#32, Ideal.ofBits .f32 0xBA931DAD#32,
  Ideal.ofBits .f32 0xBA28F392#32, Ideal.ofBits .f32 0xB9C20C31#32, Ideal.ofBits .f32 0xB95EE277#32]

/-- The value the positions of a chunk take. -/
def posS (i : Fin 128) : EReal := ((i.val : ℝ) : EReal)

/-- The causal decay between two tokens of a chunk. -/
def maskS (lg : EReal) (i j : Fin 128) : EReal :=
  if j ≤ i then Ideal.exp ((posS i - posS j) * lg) else 0

/-- The decay of the state read at a token. -/
def qdS (lg : EReal) (i : Fin 128) : EReal := Ideal.exp ((posS i + 1) * lg)
/-- The decay of a token's key to the end of its chunk. -/
def kdS (lg : EReal) (i : Fin 128) : EReal := Ideal.exp ((Ideal.ofBits .f32 1123942400#32 - posS i) * lg)
/-- The decay of the state over a chunk. -/
def cdS (lg : EReal) : EReal := Ideal.exp (Ideal.ofBits .f32 1124073472#32 * lg)
/-- A position, counted in words of 32 bits and turned into a float. -/
theorem posS_eq : ∀ i : Fin 128, FloatOps.sitofp (F := Ideal) .f32 (BitVec.ofNat 32 i.val) = posS i := by
  intro i
  show (((BitVec.ofNat 32 i.val).toInt : ℝ) : EReal) = _
  rw [(by decide +kernel : ∀ i : Fin 128, (BitVec.ofNat 32 i.val).toInt = (i.val : ℤ)) i]
  rfl

/-- The distance of two positions, likewise. -/
theorem posS_sub (i j : Fin 128) :
    FloatOps.sitofp (F := Ideal) .f32 (IntOp.subi (BitVec.ofNat 32 i.val) (BitVec.ofNat 32 j.val)) = posS i - posS j := by
  show (((IntOp.subi (BitVec.ofNat 32 i.val) (BitVec.ofNat 32 j.val)).toInt : ℝ) : EReal) = _
  rw [(by decide +kernel : ∀ i j : Fin 128, (IntOp.subi (BitVec.ofNat 32 i.val) (BitVec.ofNat 32 j.val)).toInt = (i.val : ℤ) - (j.val : ℤ)) i j]
  unfold posS
  rw [← EReal.coe_sub]
  push_cast; rfl

/-- A distance is not negative exactly from an earlier token to a later one. -/
theorem posS_sub_nonneg (i j : Fin 128) : 0 ≤ posS i - posS j ↔ j ≤ i := by
  unfold posS
  rw [← EReal.coe_sub, ← EReal.coe_zero, EReal.coe_le_coe_iff, sub_nonneg, Nat.cast_le]; rfl

/-- The softmax scale, 1/16. -/
def smS : EReal := Ideal.ofBits .f32 1031798784#32

namespace Head

variable (H : Head)

def qs (n : Fin 8) (i : Fin 128) : EReal := scaleS (amaxS (H.q n i))
def ks (n : Fin 8) (i : Fin 128) : EReal := scaleS (amaxS (H.k n i))
def vs (n : Fin 8) (i : Fin 128) : EReal := scaleS (amaxS (H.v n i))
def qn (n : Fin 8) (i : Fin 128) (d : Fin 256) : EReal := codeS (amaxS (H.q n i)) (H.q n i d)
def kn (n : Fin 8) (i : Fin 128) (d : Fin 256) : EReal := codeS (amaxS (H.k n i)) (H.k n i d)
def vn (n : Fin 8) (i : Fin 128) (e : Fin 512) : EReal := codeS (amaxS (H.v n i)) (H.v n i e)

/-- The score of tokens `i` and `j` of chunk `n`, with the scale of row `j` of v. -/
def score (n : Fin 8) (i j : Fin 128) : EReal :=
  (∑ d, H.qn n i d * H.kn n j d) * H.qs n i * H.ks n j * (maskS H.lg i j * smS) * H.vs n j

/-- What chunk `n` adds to the state. -/
def gain (n : Fin 8) (d : Fin 256) (e : Fin 512) : EReal :=
  ∑ x, H.kn n x d * (H.ks n x * kdS H.lg x) * H.vs n x * H.vn n x e

/-- The state before chunk `n`. -/
def state : ℕ → Fin 256 → Fin 512 → EReal
  | 0 => H.s
  | n + 1 => fun d e => cdS H.lg * state n d e + H.gain (Fin.ofNat 8 n) d e

/-- The output before normalisation. -/
def raw (n : Fin 8) (i : Fin 128) (e : Fin 512) : EReal :=
  (∑ j, H.score n i j * H.vn n j e)
    + (∑ d, H.qn n i d * H.state n.val d e) * (H.qs n i * (qdS H.lg i * smS))

end Head

/-- The mean of a row of 512. -/
def meanS (o : Fin 512 → EReal) : EReal := (∑ e, o e) * Ideal.ofBits .f32 989855744#32

/-- A row of 512 normalised. -/
def normS (o : Fin 512 → EReal) (e : Fin 512) : EReal :=
  (o e - meanS o) * Ideal.rsqrt (meanS (fun x => (o x - meanS o) * (o x - meanS o)) + Ideal.ofBits .f32 925353388#32)

/-- The output. -/
def Head.out (H : Head) (n : Fin 8) (i : Fin 128) (e : Fin 512) : EReal := normS (H.raw n i) e

end Cert.Retention

end
-- ==== Proof.RefQuant.lean ====
/-
  The reference's quantiser at an index: the largest magnitude of a row, its power-of-two scale and the codes, on the path into
  the loop and on the path to the stored results.
-/
module

public import proofs.«01_k».proof.Proof.Gen.ReferenceIdeal.Step
public import proofs.«01_k».proof.Proof.Spec
public import Idealize.ShloMosaic.Lib.Pointwise

@[expose] public section

set_option maxRecDepth 16384

noncomputable section

namespace Cert.Retention.Ref

open Idealize.ShloMosaic Idealize.ShloMosaic.TcCoe Idealize.ShloMosaic.Tactic
open Cert.ReferenceIdeal Cert.ReferenceIdeal.Gen Cert.ReferenceIdeal.Step Cert.Retention

/-- A constant at every row. -/
def rowC (w : BitVec 32) : FVec Ideal S2x1024x10 .f32 := broadcastInDim S2x1024x10 ![] bcast_S_S2x1024x10 (constant S_ .f32 w)
/-- A constant at every entry of rows of 256. -/
def entC256 (w : BitVec 32) : FVec Ideal S2x1024x10x256 .f32 := broadcastInDim S2x1024x10x256 ![] bcast_S_S2x1024x10x256 (constant S_ .f32 w)
/-- A constant at every entry of rows of 512. -/
def entC512 (w : BitVec 32) : FVec Ideal S2x1024x10x512 .f32 := broadcastInDim S2x1024x10x512 ![] bcast_S_S2x1024x10x512 (constant S_ .f32 w)

/-- The exponents of the scales, of the largest magnitudes of the rows. -/
def hExpo (a : FVec Ideal S2x1024x10 .f32) : FVec Ideal S2x1024x10 .f32 :=
  select (cmpf .oeq a (rowC 0x00000000#32)) (rowC 0x00000000#32)
    (addf (Host.floor (Host.divf (Host.log (mulf a (rowC 0x3B124925#32))) (Host.log (rowC 0x40000000#32)))) (rowC 0x3F800000#32))

/-- The scales. -/
def hScale (a : FVec Ideal S2x1024x10 .f32) : FVec Ideal S2x1024x10 .f32 := Host.powf (rowC 0x40000000#32) (hExpo a)

/-- The inverse scales. -/
def hInv (a : FVec Ideal S2x1024x10 .f32) : FVec Ideal S2x1024x10 .f32 := Host.powf (rowC 0x40000000#32) (Host.negf (hExpo a))

/-- The largest magnitudes of rows of 256. -/
def hAmax256 (x : FVec Ideal S2x1024x10x256 .bf16) : FVec Ideal S2x1024x10 .f32 :=
  Host.reduce FloatOps.maximumf (Host.absf (extf .f32 x bitsLt_bf16_f32)) (constant S_ .f32 0xFF800000#32 : FVec Ideal S_ .f32) reducesTo_S2x1024x10x256_S2x1024x10_d3 h_S_

/-- The largest magnitudes of rows of 512. -/
def hAmax512 (x : FVec Ideal S2x1024x10x512 .bf16) : FVec Ideal S2x1024x10 .f32 :=
  Host.reduce FloatOps.maximumf (Host.absf (extf .f32 x bitsLt_bf16_f32)) (constant S_ .f32 0xFF800000#32 : FVec Ideal S_ .f32) reducesTo_S2x1024x10x512_S2x1024x10_d3 h_S_

/-- The codes of rows of 256. -/
def hCode256 (a : FVec Ideal S2x1024x10 .f32) (x : FVec Ideal S2x1024x10x256 .bf16) : FVec Ideal S2x1024x10x256 .f32 :=
  minimumf (entC256 0x43E00000#32) (maximumf (entC256 0xC3E00000#32) (mulf (extf .f32 x bitsLt_bf16_f32)
    (broadcastInDim S2x1024x10x256 ![0, 1, 2, 3] bcast_S2x1024x10x1_S2x1024x10x256_0_1_2_3
      (broadcastInDim S2x1024x10x1 ![0, 1, 2] bcast_S2x1024x10_S2x1024x10x1_0_1_2 (hInv a)))))

/-- The codes of rows of 512. -/
def hCode512 (a : FVec Ideal S2x1024x10 .f32) (x : FVec Ideal S2x1024x10x512 .bf16) : FVec Ideal S2x1024x10x512 .f32 :=
  minimumf (entC512 0x43E00000#32) (maximumf (entC512 0xC3E00000#32) (mulf (extf .f32 x bitsLt_bf16_f32)
    (broadcastInDim S2x1024x10x512 ![0, 1, 2, 3] bcast_S2x1024x10x1_S2x1024x10x512_0_1_2_3
      (broadcastInDim S2x1024x10x1 ![0, 1, 2] bcast_S2x1024x10_S2x1024x10x1_0_1_2 (hInv a)))))

section
variable (q k : FVec Ideal S2x1024x10x256 .bf16) (v : FVec Ideal S2x1024x10x512 .bf16) (s : State Ideal)

theorem scale_q : A_main_v15 (F := Ideal) q k v = hScale (hAmax256 q) := rfl
theorem scale_k : A_main_v37 (F := Ideal) q k v = hScale (hAmax256 k) := rfl
theorem scale_v : A_main_v59 (F := Ideal) q k v = hScale (hAmax512 v) := rfl
theorem code_q : A_main_v21 (F := Ideal) q k v = hCode256 (hAmax256 q) q := rfl
theorem code_k : A_main_v43 (F := Ideal) q k v = hCode256 (hAmax256 k) k := rfl
theorem code_v : A_main_v65 (F := Ideal) q k v = hCode512 (hAmax512 v) v := rfl

/-- The stored codes of rows of 256. -/
def hStore256 (x : FVec Ideal S2x1024x10x256 .bf16) : FVec Ideal S2x10x1024x256 .fp8e4m3 :=
  Host.convertf .fp8e4m3 (transpose S2x10x1024x256 [0, 2, 1, 3] (hCode256 (hAmax256 x) x) transposes_S2x1024x10x256_S2x10x1024x256_0_2_1_3)
/-- The stored codes of rows of 512. -/
def hStore512 (x : FVec Ideal S2x1024x10x512 .bf16) : FVec Ideal S2x10x1024x512 .fp8e4m3 :=
  Host.convertf .fp8e4m3 (transpose S2x10x1024x512 [0, 2, 1, 3] (hCode512 (hAmax512 x) x) transposes_S2x1024x10x512_S2x10x1024x512_0_2_1_3)
/-- The stored scales, of the largest magnitudes of the rows. -/
def hStoreS (a : FVec Ideal S2x1024x10 .f32) : FVec Ideal S10x2x1024 .f32 :=
  transpose S10x2x1024 [2, 0, 1] (hScale a) transposes_S2x1024x10_S10x2x1024_2_0_1

theorem store_q : R_main_v154 (F := Ideal) s q = hStore256 q := rfl
theorem stores_q : R_main_v155 (F := Ideal) s q = hStoreS (hAmax256 q) := rfl
theorem store_k : R_main_v179 (F := Ideal) s k = hStore256 k := rfl
theorem stores_k : R_main_v180 (F := Ideal) s k = hStoreS (hAmax256 k) := rfl
theorem store_v : R_main_v204 (F := Ideal) s v = hStore512 v := rfl
theorem stores_v : R_main_v205 (F := Ideal) s v = hStoreS (hAmax512 v) := rfl
end

theorem hAmax256_at (x : FVec Ideal S2x1024x10x256 .bf16) (b : Fin 2) (t : Fin 1024) (h : Fin 10) :
    hAmax256 x (ix3 b t h) = amaxS (fun d => x (ix4 b t h d)) := by
  pointwise [hAmax256]
  rfl

theorem hAmax512_at (x : FVec Ideal S2x1024x10x512 .bf16) (b : Fin 2) (t : Fin 1024) (h : Fin 10) :
    hAmax512 x (ix3 b t h) = amaxS (fun d => x (ix4 b t h d)) := by
  pointwise [hAmax512]
  rfl

/-- The inverse of the largest code is not zero. -/
theorem word_ne_zero : Ideal.ofBits .f32 991054117#32 ≠ 0 := by
  simp [Ideal.ofBits, Ideal.ieee]

/-- The word of two. -/
theorem two_eq : Ideal.ofBits .f32 1073741824#32 = ((2 : ℝ) : EReal) := by
  simp [Ideal.ofBits, Ideal.ieee]
  norm_num [← EReal.coe_mul]

/-- A power of two. -/
theorem pow_two_eq (e : EReal) : Ideal.pow (Ideal.ofBits .f32 1073741824#32) e = Ideal.exp2 e := by
  rw [two_eq]
  induction e using EReal.rec with
  | bot => show (if (2 : ℝ) < 0 then _ else _) = (0 : EReal); norm_num
  | top => show (if (2 : ℝ) < 0 then _ else _) = (⊤ : EReal); norm_num
  | coe r => rfl

theorem hExpo_at (a : FVec Ideal S2x1024x10 .f32) (i : S2x1024x10.Idx) : hExpo a i = expoS (a i) := by
  pointwise [hExpo, rowC]
  unfold expoS
  simp only [mul_eq_zero, word_ne_zero, or_false]

theorem hScale_at (a : FVec Ideal S2x1024x10 .f32) (i : S2x1024x10.Idx) : hScale a i = scaleS (a i) := by
  pointwise [hScale, rowC]
  rw [hExpo_at, pow_two_eq]; rfl

theorem hInv_at (a : FVec Ideal S2x1024x10 .f32) (i : S2x1024x10.Idx) : hInv a i = Ideal.exp2 (-(expoS (a i))) := by
  pointwise [hInv, rowC]
  rw [hExpo_at, pow_two_eq]

theorem hCode256_at (x : FVec Ideal S2x1024x10x256 .bf16) (b : Fin 2) (t : Fin 1024) (h : Fin 10) (d : Fin 256) :
    hCode256 (hAmax256 x) x (ix4 b t h d) = codeS (amaxS (fun d => x (ix4 b t h d))) (x (ix4 b t h d)) := by
  pointwise [hCode256, entC256]
  rw [hInv_at, hAmax256_at, min_comm, max_comm]; rfl

theorem hCode512_at (x : FVec Ideal S2x1024x10x512 .bf16) (b : Fin 2) (t : Fin 1024) (h : Fin 10) (d : Fin 512) :
    hCode512 (hAmax512 x) x (ix4 b t h d) = codeS (amaxS (fun d => x (ix4 b t h d))) (x (ix4 b t h d)) := by
  pointwise [hCode512, entC512]
  rw [hInv_at, hAmax512_at, min_comm, max_comm]; rfl

/-- The stored codes of rows of 256, read. -/
theorem hStore256_at (x : FVec Ideal S2x1024x10x256 .bf16) (b : Fin 2) (t : Fin 1024) (h : Fin 10) (d : Fin 256) :
    hStore256 x (ix4 b h t d) = codeS (amaxS (fun d => x (ix4 b t h d))) (x (ix4 b t h d)) := by
  rw [← hCode256_at]
  pointwise [hStore256]

/-- The stored codes of rows of 512, read. -/
theorem hStore512_at (x : FVec Ideal S2x1024x10x512 .bf16) (b : Fin 2) (t : Fin 1024) (h : Fin 10) (d : Fin 512) :
    hStore512 x (ix4 b h t d) = codeS (amaxS (fun d => x (ix4 b t h d))) (x (ix4 b t h d)) := by
  rw [← hCode512_at]
  pointwise [hStore512]

/-- The stored scales, read. -/
theorem hStoreS_at (a : FVec Ideal S2x1024x10 .f32) (b : Fin 2) (t : Fin 1024) (h : Fin 10) :
    hStoreS a (ix3 h b t) = scaleS (a (ix3 b t h)) := by
  rw [← hScale_at]
  pointwise [hStoreS]

end Cert.Retention.Ref

end
-- ==== Proof.Blocks.lean ====
/-
  What one head's program computes, said once.

  A grid point handles one head.  It walks 8 chunks of 128 tokens, and in each chunk both batch entries: 16 units.  Every
  unit runs the same operations on its own rows.  This module names those operations as functions of the rows read, in
  the order the kernel applies them, so that the printed payloads of all 16 units can be stated as these functions at
  (batch, chunk).
-/
module

public import proofs.«01_k».proof.Proof.Gen.KernelIdeal.Value

@[expose] public section

set_option maxRecDepth 16384

noncomputable section

namespace Cert.Retention

open Idealize.ShloMosaic Idealize.ShloMosaic.TcCoe Idealize.ShloMosaic.Tactic
open Cert.KernelIdeal Cert.KernelIdeal.Gen

variable {F : FTy → Type} [FloatOps F]

/-- The largest magnitude of each row of a 128 x 256 block: the lane tiles are folded first, then the lanes. -/
def amax256 (x : FVec F S128x256 .bf16) : FVec F S128x1 .f32 :=
  shapeCast S128x1 (multiReduction .maximumf [1] S128
    (extf .f32 (maximumf (extractStridedSlice S128x128 ![0, 0] (absf x) slices_S128x256_o0_0_S128x128)
      (extractStridedSlice S128x128 ![0, 128] (absf x) slices_S128x256_o0_128_S128x128)) bitsLt_bf16_f32)
    0xFF800000#32 reduces_S128x128_S128 (.inl rfl) rfl) shapeCasts_S128_S128x1

/-- The largest magnitude of each row of a 128 x 512 block. -/
def amax512 (x : FVec F S128x512 .bf16) : FVec F S128x1 .f32 :=
  shapeCast S128x1 (multiReduction .maximumf [1] S128
    (extf .f32 (maximumf (maximumf (maximumf
      (extractStridedSlice S128x128 ![0, 0] (absf x) slices_S128x512_o0_0_S128x128)
      (extractStridedSlice S128x128 ![0, 128] (absf x) slices_S128x512_o0_128_S128x128))
      (extractStridedSlice S128x128 ![0, 256] (absf x) slices_S128x512_o0_256_S128x128))
      (extractStridedSlice S128x128 ![0, 384] (absf x) slices_S128x512_o0_384_S128x128)) bitsLt_bf16_f32)
    0xFF800000#32 reduces_S128x128_S128 (.inl rfl) rfl) shapeCasts_S128_S128x1

/-- The exponent of a row's power-of-two scale. -/
def expo (a : FVec F S128x1 .f32) : FVec F S128x1 .f32 :=
  select (cmpf .oeq (mulf a (broadcast S128x1 (Scalar.ofBits .f32 0x3B124925#32)))
      (broadcast S128x1 (Scalar.ofBits .f32 0x00000000#32)))
    (broadcast S128x1 (Scalar.ofBits .f32 0x00000000#32))
    (addf (floor (divf (log (mulf a (broadcast S128x1 (Scalar.ofBits .f32 0x3B124925#32))))
      (log (broadcast S128x1 (Scalar.ofBits .f32 0x40000000#32)))))
      (broadcast S128x1 (Scalar.ofBits .f32 0x3F800000#32)))

/-- The scale of each row. -/
def scaleOf (a : FVec F S128x1 .f32) : FVec F S128x1 .f32 := exp2 (expo a)

/-- The reciprocal of the scale of each row. -/
def invOf (a : FVec F S128x1 .f32) : FVec F S128x1 .bf16 :=
  truncf .bf16 (exp2 (subf (broadcast S128x1 (Scalar.ofBits .f32 0x00000000#32)) (expo a))) bitsLt_bf16_f32

/-- The codes of a 128 x 256 block. -/
def codes256 (x : FVec F S128x256 .bf16) : FVec F S128x256 .fp8e4m3 :=
  truncf .fp8e4m3 (minimumf (maximumf (mulf x (broadcastTo S128x256 (invOf (amax256 x)) broadcasts_S128x1_S128x256))
    (broadcast S128x256 (Scalar.ofBits .bf16 0xC3E0#16))) (broadcast S128x256 (Scalar.ofBits .bf16 0x43E0#16)))
    bitsLt_fp8e4m3_bf16

/-- The codes of a 128 x 512 block. -/
def codes512 (x : FVec F S128x512 .bf16) : FVec F S128x512 .fp8e4m3 :=
  truncf .fp8e4m3 (minimumf (maximumf (mulf x (broadcastTo S128x512 (invOf (amax512 x)) broadcasts_S128x1_S128x512))
    (broadcast S128x512 (Scalar.ofBits .bf16 0xC3E0#16))) (broadcast S128x512 (Scalar.ofBits .bf16 0x43E0#16)))
    bitsLt_fp8e4m3_bf16

/-- The three scale columns turned into rows: row 0 the first, row 1 the second, every other row the third. -/
def rowsOf (qs ks vs : FVec F S128x1 .f32) : FVec F S128x128 .f32 :=
  transpose S128x128 [1, 0]
    (select (cmpi .eq (iota .tc S128x128 32 [1] iota_S128x128_d1_w32) (broadcast S128x128 0#32))
      (broadcastTo S128x128 (shapeCast S128x1 qs shapeCasts_S128x1_S128x1) broadcasts_S128x1_S128x128)
      (select (cmpi .eq (iota .tc S128x128 32 [1] iota_S128x128_d1_w32) (broadcast S128x128 1#32))
        (broadcastTo S128x128 (shapeCast S128x1 ks shapeCasts_S128x1_S128x1) broadcasts_S128x1_S128x128)
        (broadcastTo S128x128 (shapeCast S128x1 vs shapeCasts_S128x1_S128x1) broadcasts_S128x1_S128x128)))
    transposes_S128x128_p1_0_S128x128

/-- Row 0 of the packed scales. -/
def row0 (r : FVec F S128x128 .f32) : FVec F S1x128 .f32 := extractStridedSlice S1x128 ![0, 0] r slices_S128x128_o0_0_S1x128
/-- Row 1 of the packed scales. -/
def row1 (r : FVec F S128x128 .f32) : FVec F S1x128 .f32 := extractStridedSlice S1x128 ![1, 0] r slices_S128x128_o1_0_S1x128
/-- Row 2 of the packed scales. -/
def row2 (r : FVec F S128x128 .f32) : FVec F S1x128 .f32 := extractStridedSlice S1x128 ![2, 0] r slices_S128x128_o2_0_S1x128

/-- The decayed, masked scores within the chunk. -/
def scores (qs : FVec F S128x1 .f32) (qn kn : FVec F S128x256 .fp8e4m3) (r : FVec F S128x128 .f32)
    (D : FVec F S128x128 .f32) : FVec F S128x128 .bf16 :=
  mulf (truncf .bf16 (mulf (mulf (mulf (matmul dot_S128x256_S128x256_S128x128_1_1_0_0_n_n none qn kn (constant S128x128 .f32 0x00000000#32))
      (broadcastTo S128x128 qs broadcasts_S128x1_S128x128)) (broadcastTo S128x128 (row1 r) broadcasts_S1x128_S128x128)) D) bitsLt_bf16_f32)
    (broadcastTo S128x128 (truncf .bf16 (row2 r) bitsLt_bf16_f32) broadcasts_S1x128_S128x128)

/-- The unnormalised output of a unit: the part within the chunk plus the part read from the state. -/
def outOf (qd qs : FVec F S128x1 .f32) (qn kn : FVec F S128x256 .fp8e4m3) (vn : FVec F S128x512 .fp8e4m3)
    (r D : FVec F S128x128 .f32) (S : Vec F S1x256x512 .f32) : FVec F S128x512 .f32 :=
  addf (matmul dot_S128x128_S128x512_S128x512_1_0_0_1_n_n none (scores qs qn kn r D) vn (constant S128x512 .f32 0x00000000#32))
    (mulf (matmul dot_S128x256_S256x512_S128x512_1_0_0_1_n_n none (extf .bf16 qn bitsLt_fp8e4m3_bf16)
        (truncf .bf16 (shapeCast S256x512 S shapeCasts_S1x256x512_S256x512) bitsLt_bf16_f32) (constant S128x512 .f32 0x00000000#32))
      (broadcastTo S128x512 (mulf qs qd) broadcasts_S128x1_S128x512))

/-- The keys as they enter the state: decayed to the chunk's end and carrying both scales. -/
def keysOf (kd ks vs : FVec F S128x1 .f32) (kn : FVec F S128x256 .fp8e4m3) : FVec F S128x256 .bf16 :=
  mulf (truncf .bf16 (mulf (extf .f32 kn bitsLt_fp8e4m3_f32) (broadcastTo S128x256 (mulf ks kd) broadcasts_S128x1_S128x256)) bitsLt_bf16_f32)
    (broadcastTo S128x256 (truncf .bf16 vs bitsLt_bf16_f32) broadcasts_S128x1_S128x256)

/-- The state after a chunk. -/
def nextOf (cd : FVec F S1x1 .f32) (kd ks vs : FVec F S128x1 .f32) (kn : FVec F S128x256 .fp8e4m3) (vn : FVec F S128x512 .fp8e4m3)
    (S : Vec F S1x256x512 .f32) : FVec F S1x256x512 .f32 :=
  shapeCast S1x256x512 (addf (mulf (broadcastTo S256x512 cd broadcasts_S1x1_S256x512) (shapeCast S256x512 S shapeCasts_S1x256x512_S256x512))
    (matmul dot_S128x256_S128x512_S256x512_0_0_1_1_n_n none (keysOf kd ks vs kn) vn (constant S256x512 .f32 0x00000000#32)))
    shapeCasts_S256x512_S1x256x512

/-- A column of row means of a 128 x 512 block. -/
def meanOf (o : FVec F S128x512 .f32) : FVec F S128x1 .f32 :=
  mulf (shapeCast S128x1 (multiReduction .add [1] S128 o 0x00000000#32 reduces_S128x512_S128 (.inl rfl) rfl) shapeCasts_S128_S128x1)
    (broadcast S128x1 (Scalar.ofBits .f32 0x3B000000#32))

/-- The rows with their mean taken off. -/
def centreOf (o : FVec F S128x512 .f32) : FVec F S128x512 .f32 :=
  subf o (broadcastTo S128x512 (meanOf o) broadcasts_S128x1_S128x512)

/-- The normalised output of a unit. -/
def normOf (o : FVec F S128x512 .f32) : FVec F S1x128x512 .bf16 :=
  shapeCast S1x128x512 (truncf .bf16 (mulf (centreOf o)
    (broadcastTo S128x512 (rsqrt (addf (meanOf (mulf (centreOf o) (centreOf o))) (broadcast S128x1 (Scalar.ofBits .f32 0x3727C5AC#32))))
      broadcasts_S128x1_S128x512)) bitsLt_bf16_f32) shapeCasts_S128x512_S1x128x512

/-- What the units of a head read: the rows of q, k and v by batch and chunk, the starting state by batch, the decay
    table, and the decay columns and the chunk's decay. -/
structure Reads (F : FTy → Type) where
  q : Fin 2 → Fin 8 → Vec F S1x1x128x256 .bf16
  k : Fin 2 → Fin 8 → Vec F S1x1x128x256 .bf16
  v : Fin 2 → Fin 8 → Vec F S1x1x128x512 .bf16
  s : Fin 2 → Vec F S1x1x256x512 .f32
  D : FVec F S128x128 .f32
  qd : FVec F S128x1 .f32
  kd : FVec F S128x1 .f32
  cd : FVec F S1x1 .f32

namespace Reads

variable (R : Reads F) (b : Fin 2) (n : Fin 8)

def qx : FVec F S128x256 .bf16 := shapeCast S128x256 (R.q b n) shapeCasts_S1x1x128x256_S128x256
def kx : FVec F S128x256 .bf16 := shapeCast S128x256 (R.k b n) shapeCasts_S1x1x128x256_S128x256
def vx : FVec F S128x512 .bf16 := shapeCast S128x512 (R.v b n) shapeCasts_S1x1x128x512_S128x512
def qs : FVec F S128x1 .f32 := scaleOf (amax256 (R.qx b n))
def ks : FVec F S128x1 .f32 := scaleOf (amax256 (R.kx b n))
def vs : FVec F S128x1 .f32 := scaleOf (amax512 (R.vx b n))
def qn : FVec F S128x256 .fp8e4m3 := codes256 (R.qx b n)
def kn : FVec F S128x256 .fp8e4m3 := codes256 (R.kx b n)
def vn : FVec F S128x512 .fp8e4m3 := codes512 (R.vx b n)
def rows : FVec F S128x128 .f32 := rowsOf (R.qs b n) (R.ks b n) (R.vs b n)

/-- The state after one more chunk. -/
def next (S : Vec F S1x256x512 .f32) : FVec F S1x256x512 .f32 :=
  nextOf R.cd R.kd (R.ks b n) (R.vs b n) (R.kn b n) (R.vn b n) S

/-- The state a batch entry starts with. -/
def start : FVec F S1x256x512 .f32 :=
  shapeCast S1x256x512 (shapeCast S256x512 (R.s b) shapeCasts_S1x1x256x512_S256x512) shapeCasts_S256x512_S1x256x512

/-- The state before chunk `n` (chunk numbers past the last one repeat it, and are never read). -/
def state : ℕ → FVec F S1x256x512 .f32
  | 0 => R.start b
  | n + 1 => R.next b (Fin.ofNat 8 n) (state n)

/-- The unnormalised output of unit `(b, n)` from the state `S`. -/
def outFrom (S : Vec F S1x256x512 .f32) : FVec F S128x512 .f32 :=
  outOf R.qd (R.qs b n) (R.qn b n) (R.kn b n) (R.vn b n) (R.rows b n) R.D S

end Reads

end Cert.Retention

end
-- ==== Proof.UnitAt.lean ====
module

public import proofs.«01_k».proof.Proof.Spec

public import proofs.«01_k».proof.Proof.Blocks
public import Idealize.ShloMosaic.Lib.Pointwise

@[expose] public section

set_option maxRecDepth 16384

noncomputable section

namespace Cert.Retention

open Idealize.ShloMosaic Idealize.ShloMosaic.TcCoe Idealize.ShloMosaic.Tactic
open Cert.KernelIdeal Cert.KernelIdeal.Gen

theorem amax_lanes256 (b : EReal) (f : Fin 256 → EReal) :
    Finset.fold max b (fun x : Fin 128 => max (f ⟨x.val, by omega⟩) (f ⟨128 + x.val, by omega⟩)) Finset.univ
      = Finset.fold max b f Finset.univ := by
  refine eq_of_forall_ge_iff fun c => ?_
  simp only [Finset.fold_max_le, Finset.mem_univ, true_implies, max_le_iff]
  refine and_congr_right fun _ => ⟨fun h d => ?_, fun h x => ⟨h _, h _⟩⟩
  by_cases hd : d.val < 128
  · exact (h ⟨d.val, hd⟩).1
  · have := (h ⟨d.val - 128, by omega⟩).2
    rwa [show (⟨128 + (⟨d.val - 128, by omega⟩ : Fin 128).val, by simp; omega⟩ : Fin 256) = d from Fin.ext (by simp; omega)] at this

theorem amax_lanes512 (b : EReal) (f : Fin 512 → EReal) :
    Finset.fold max b (fun x : Fin 128 => max (max (max (f ⟨x.val, by omega⟩) (f ⟨128 + x.val, by omega⟩)) (f ⟨256 + x.val, by omega⟩)) (f ⟨384 + x.val, by omega⟩)) Finset.univ
      = Finset.fold max b f Finset.univ := by
  refine eq_of_forall_ge_iff fun c => ?_
  simp only [Finset.fold_max_le, Finset.mem_univ, true_implies, max_le_iff]
  refine and_congr_right fun _ => ⟨fun h d => ?_, fun h x => ⟨⟨⟨h _, h _⟩, h _⟩, h _⟩⟩
  have hk : ∀ (o : ℕ) (ho : o + 128 ≤ 512), (∀ x : Fin 128, f ⟨o + x.val, by omega⟩ ≤ c) → o ≤ d.val → d.val < o + 128 → f d ≤ c := by
    intro o ho hx h1 h2
    have := hx ⟨d.val - o, by omega⟩
    rwa [show (⟨o + (⟨d.val - o, by omega⟩ : Fin 128).val, by simp; omega⟩ : Fin 512) = d from Fin.ext (by simp; omega)] at this
  by_cases h1 : d.val < 128
  · exact (h ⟨d.val, h1⟩).1.1.1
  by_cases h2 : d.val < 256
  · exact hk 128 (by omega) (fun x => (h x).1.1.2) (by omega) (by omega)
  by_cases h3 : d.val < 384
  · exact hk 256 (by omega) (fun x => (h x).1.2) (by omega) (by omega)
  · exact hk 384 (by omega) (fun x => (h x).2) (by omega) (by omega)

theorem amax256_at (x : FVec Ideal S128x256 .bf16) (r : Fin 128) (z : Fin 1) :
    amax256 x (ix2 r z) = amaxS (fun d => x (ix2 r d)) := by
  pointwise [amax256]
  exact amax_lanes256 _ (fun d => FloatOps.absf (F := Ideal) (φ := .f32) (x (ix2 r d)))

theorem amax512_at (x : FVec Ideal S128x512 .bf16) (r : Fin 128) (z : Fin 1) :
    amax512 x (ix2 r z) = amaxS (fun d => x (ix2 r d)) := by
  pointwise [amax512]
  exact amax_lanes512 _ (fun d => FloatOps.absf (F := Ideal) (φ := .f32) (x (ix2 r d)))

theorem expo_at (a : FVec Ideal S128x1 .f32) (r : Fin 128) (z : Fin 1) : expo a (ix2 r z) = expoS (a (ix2 r z)) := by
  pointwise [expo]
  rfl

theorem scaleOf_at (a : FVec Ideal S128x1 .f32) (r : Fin 128) (z : Fin 1) : scaleOf a (ix2 r z) = scaleS (a (ix2 r z)) := by
  pointwise [scaleOf]
  rw [expo_at]; rfl

theorem invOf_at (a : FVec Ideal S128x1 .f32) (r : Fin 128) (z : Fin 1) : invOf a (ix2 r z) = Ideal.exp2 (-(expoS (a (ix2 r z)))) := by
  pointwise [invOf]
  rw [expo_at, zero_sub]; rfl

theorem lo_eq : Ideal.ofBits .bf16 50144#16 = Ideal.ofBits .f32 3286237184#32 := by
  simp [Ideal.ofBits, Ideal.ieee]
  norm_num [← EReal.coe_mul]
theorem hi_eq : Ideal.ofBits .bf16 17376#16 = Ideal.ofBits .f32 1138753536#32 := by
  simp [Ideal.ofBits, Ideal.ieee]
  norm_num [← EReal.coe_mul]

theorem codes256_at (x : FVec Ideal S128x256 .bf16) (r : Fin 128) (d : Fin 256) :
    codes256 x (ix2 r d) = codeS (amaxS (fun d => x (ix2 r d))) (x (ix2 r d)) := by
  pointwise [codes256]
  rw [invOf_at, amax256_at, lo_eq, hi_eq]; rfl

theorem codes512_at (x : FVec Ideal S128x512 .bf16) (r : Fin 128) (d : Fin 512) :
    codes512 x (ix2 r d) = codeS (amaxS (fun d => x (ix2 r d))) (x (ix2 r d)) := by
  pointwise [codes512]
  rw [invOf_at, amax512_at, lo_eq, hi_eq]; rfl

theorem row0_at (a b c : FVec Ideal S128x1 .f32) (r : Fin 1) (z : Fin 128) : row0 (rowsOf a b c) (ix2 r z) = a (ix2 z 0) := by
  pointwise [row0, rowsOf]
  first | done | rfl
theorem row1_at (a b c : FVec Ideal S128x1 .f32) (r : Fin 1) (z : Fin 128) : row1 (rowsOf a b c) (ix2 r z) = b (ix2 z 0) := by
  pointwise [row1, rowsOf]
  first | done | rfl
theorem row2_at (a b c : FVec Ideal S128x1 .f32) (r : Fin 1) (z : Fin 128) : row2 (rowsOf a b c) (ix2 r z) = c (ix2 z 0) := by
  pointwise [row2, rowsOf]
  first | done | rfl

theorem scores_at (qs : FVec Ideal S128x1 .f32) (qn kn : FVec Ideal S128x256 .fp8e4m3) (r D : FVec Ideal S128x128 .f32) (i j : Fin 128) :
    scores qs qn kn r D (ix2 i j) = (∑ x, qn (ix2 i x) * kn (ix2 j x)) * qs (ix2 i 0) * row1 r (ix2 0 j) * D (ix2 i j) * row2 r (ix2 0 j) := by
  pointwise [scores]

theorem outOf_at (qd qs : FVec Ideal S128x1 .f32) (qn kn : FVec Ideal S128x256 .fp8e4m3) (vn : FVec Ideal S128x512 .fp8e4m3)
    (r D : FVec Ideal S128x128 .f32) (S : Vec Ideal S1x256x512 .f32) (i : Fin 128) (e : Fin 512) :
    outOf qd qs qn kn vn r D S (ix2 i e) = (∑ j, scores qs qn kn r D (ix2 i j) * vn (ix2 j e))
      + (∑ d, qn (ix2 i d) * S (ix3 0 d e)) * (qs (ix2 i 0) * qd (ix2 i 0)) := by
  pointwise [outOf]

theorem nextOf_at (cd : FVec Ideal S1x1 .f32) (kd ks vs : FVec Ideal S128x1 .f32) (kn : FVec Ideal S128x256 .fp8e4m3) (vn : FVec Ideal S128x512 .fp8e4m3)
    (S : Vec Ideal S1x256x512 .f32) (z : Fin 1) (d : Fin 256) (e : Fin 512) : nextOf cd kd ks vs kn vn S (ix3 z d e)
      = cd (ix2 0 0) * S (ix3 0 d e) + ∑ x, kn (ix2 x d) * (ks (ix2 x 0) * kd (ix2 x 0)) * vs (ix2 x 0) * vn (ix2 x e) := by
  pointwise [nextOf, keysOf]

theorem normOf_at (o : FVec Ideal S128x512 .f32)  (z : Fin 1) (d : Fin 128) (e : Fin 512) : normOf o (ix3 z d e) = normS (fun e => o (ix2 d e)) e := by
  pointwise [normOf, centreOf, meanOf]
  rfl

end Cert.Retention

end
-- ==== Proof.HeadAt.lean ====
module

public import proofs.«01_k».proof.Proof.UnitAt
public import Idealize.ShloMosaic.Lib.Pointwise

@[expose] public section

set_option maxRecDepth 16384

noncomputable section

namespace Cert.Retention

open Idealize.ShloMosaic Idealize.ShloMosaic.TcCoe Idealize.ShloMosaic.Tactic
open Cert.KernelIdeal Cert.KernelIdeal.Gen

theorem pay4_eq (i : grid0.Coords) : (k0_pay4 i : Ideal .f32) = lgS (i 0) := by
  have : ∀ h : Fin 10, ∀ i : grid0.Coords, i 0 = h → (k0_pay4 i : Ideal .f32) = lgS h := by
    intro h i hi
    unfold k0_pay4
    simp only [hi]
    fin_cases h <;> rfl
  exact this _ i rfl

theorem pay5_at (i : grid0.Coords) (z e : Fin 128) : (k0_pay5 i : FVec Ideal S128x128 .f32) (ix2 z e) = maskS (lgS (i 0)) z e * smS := by
  unfold k0_pay5
  pointwise
  rw [pay4_eq, posS_sub]
  simp only [posS_sub_nonneg]
  rfl

theorem pay8_at (i : grid0.Coords) (z : Fin 128) (e : Fin 1) :
    (k0_pay8 (k0_pay4 i) kernelRun0_A.sl.v20 : FVec Ideal S128x1 .f32) (ix2 z e) = qdS (lgS (i 0)) z * smS := by
  unfold k0_pay8 k0_pay7 kernelRun0_A.sl.v20
  pointwise
  rw [pay4_eq, posS_eq]
  rfl

theorem pay9_at (i : grid0.Coords) (z : Fin 128) (e : Fin 1) :
    (k0_pay9 (k0_pay4 i) kernelRun0_A.sl.v20 : FVec Ideal S128x1 .f32) (ix2 z e) = kdS (lgS (i 0)) z := by
  unfold k0_pay9 k0_pay7 kernelRun0_A.sl.v20
  pointwise
  rw [pay4_eq, posS_eq]
  rfl

theorem pay10_at (i : grid0.Coords) (z : Fin 1) (e : Fin 1) :
    (k0_pay10 (k0_pay4 i) : FVec Ideal S1x1 .f32) (ix2 z e) = cdS (lgS (i 0)) := by
  unfold k0_pay10
  pointwise
  rw [pay4_eq]
  rfl

/-- What the units of a batch entry read is the head `H`. -/
structure Agrees (R : Reads Ideal) (b : Fin 2) (H : Head) : Prop where
  q : ∀ n i d, R.q b n (ix4 0 0 i d) = H.q n i d
  k : ∀ n i d, R.k b n (ix4 0 0 i d) = H.k n i d
  v : ∀ n i d, R.v b n (ix4 0 0 i d) = H.v n i d
  s : ∀ d e, R.s b (ix4 0 0 d e) = H.s d e
  D : ∀ i j, R.D (ix2 i j) = maskS H.lg i j * smS
  qd : ∀ i, R.qd (ix2 i 0) = qdS H.lg i * smS
  kd : ∀ i, R.kd (ix2 i 0) = kdS H.lg i
  cd : R.cd (ix2 0 0) = cdS H.lg

namespace Agrees

variable {R : Reads Ideal} {b : Fin 2} {H : Head} (A : Agrees R b H) (n : Fin 8)
include A

theorem qx (i : Fin 128) (d : Fin 256) : R.qx b n (ix2 i d) = H.q n i d := by
  pointwise [Reads.qx]
  exact A.q n i d
theorem kx (i : Fin 128) (d : Fin 256) : R.kx b n (ix2 i d) = H.k n i d := by
  pointwise [Reads.kx]
  exact A.k n i d
theorem vx (i : Fin 128) (d : Fin 512) : R.vx b n (ix2 i d) = H.v n i d := by
  pointwise [Reads.vx]
  exact A.v n i d

theorem qs (i : Fin 128) (z : Fin 1) : R.qs b n (ix2 i z) = H.qs n i := by
  unfold Reads.qs; rw [scaleOf_at, amax256_at]; simp only [A.qx]; rfl
theorem ks (i : Fin 128) (z : Fin 1) : R.ks b n (ix2 i z) = H.ks n i := by
  unfold Reads.ks; rw [scaleOf_at, amax256_at]; simp only [A.kx]; rfl
theorem vs (i : Fin 128) (z : Fin 1) : R.vs b n (ix2 i z) = H.vs n i := by
  unfold Reads.vs; rw [scaleOf_at, amax512_at]; simp only [A.vx]; rfl
theorem qn (i : Fin 128) (d : Fin 256) : R.qn b n (ix2 i d) = H.qn n i d := by
  unfold Reads.qn; rw [codes256_at]; simp only [A.qx]; rfl
theorem kn (i : Fin 128) (d : Fin 256) : R.kn b n (ix2 i d) = H.kn n i d := by
  unfold Reads.kn; rw [codes256_at]; simp only [A.kx]; rfl
theorem vn (i : Fin 128) (d : Fin 512) : R.vn b n (ix2 i d) = H.vn n i d := by
  unfold Reads.vn; rw [codes512_at]; simp only [A.vx]; rfl
theorem r0 (z : Fin 1) (j : Fin 128) : row0 (R.rows b n) (ix2 z j) = H.qs n j := by
  unfold Reads.rows; rw [row0_at, A.qs]
theorem r1 (z : Fin 1) (j : Fin 128) : row1 (R.rows b n) (ix2 z j) = H.ks n j := by
  unfold Reads.rows; rw [row1_at, A.ks]
theorem r2 (z : Fin 1) (j : Fin 128) : row2 (R.rows b n) (ix2 z j) = H.vs n j := by
  unfold Reads.rows; rw [row2_at, A.vs]

theorem state (k : ℕ) (z : Fin 1) (d : Fin 256) (e : Fin 512) : R.state b k (ix3 z d e) = H.state k d e := by
  induction k generalizing z d e with
  | zero =>
    show R.start b (ix3 z d e) = H.s d e
    pointwise [Reads.start]
    exact A.s d e
  | succ k ih =>
    show R.next b (Fin.ofNat 8 k) (R.state b k) (ix3 z d e) = cdS H.lg * H.state k d e + H.gain (Fin.ofNat 8 k) d e
    unfold Reads.next Head.gain
    rw [nextOf_at, ih, A.cd]
    simp only [A.kn, A.ks, A.vs, A.vn, A.kd]

theorem raw (i : Fin 128) (e : Fin 512) : R.outFrom b n (R.state b n.val) (ix2 i e) = H.raw n i e := by
  unfold Reads.outFrom Head.raw Head.score
  rw [outOf_at]
  simp only [scores_at, A.state, A.qn, A.kn, A.vn, A.qs, A.r1, A.r2, A.D, A.qd]

theorem out (z : Fin 1) (i : Fin 128) (e : Fin 512) :
    normOf (R.outFrom b n (R.state b n.val)) (ix3 z i e) = H.out n i e := by
  rw [normOf_at]
  simp only [A.raw]
  rfl

end Agrees

end Cert.Retention

end
-- ==== Proof.Pieces.lean ====
/-
  The stores of one grid point, as lists over the 16 units.
-/
module

public import proofs.«01_k».proof.Proof.Blocks

@[expose] public section

set_option maxRecDepth 16384

noncomputable section

namespace Cert.Retention

open Idealize.ShloMosaic Idealize.ShloMosaic.TcCoe Idealize.ShloMosaic.Tactic
open Cert.KernelIdeal Cert.KernelIdeal.Gen

variable {F : FTy → Type} [FloatOps F]

/-- Unit `15 - k` in the order the units run, batch innermost: its batch entry. -/
def bOf (k : Fin 16) : Fin 2 := ⟨(15 - k.val) % 2, Nat.mod_lt _ (by decide)⟩
/-- Its chunk. -/
def nOf (k : Fin 16) : Fin 8 := ⟨(15 - k.val) / 2, by omega⟩

theorem inb256 (b : Fin 2) (n : Fin 8) : ∀ a, ![b.val, 0, 128 * n.val, 0] a + S1x1x128x256.size a ≤ S2x1x1024x256.size a := by
  revert b n; decide
theorem inb512 (b : Fin 2) (n : Fin 8) : ∀ a, ![b.val, 0, 128 * n.val, 0] a + S1x1x128x512.size a ≤ S2x1x1024x512.size a := by
  revert b n; decide
theorem inbState (b : Fin 2) : ∀ a, ![b.val, 0, 0, 0] a + S1x1x256x512.size a ≤ S2x1x256x512.size a := by
  revert b; decide

theorem inbScale (b : Fin 2) (n : Fin 8) : ∀ a, ![0, b.val, 128 * n.val] a + S1x1x128.size a ≤ S1x2x1024.size a := by
  revert b n; decide
theorem inbOut (b : Fin 2) (n : Fin 8) : ∀ a, ![b.val, 128 * n.val, 0] a + S1x128x512.size a ≤ S2x1024x512.size a := by
  revert b n; decide
theorem inbS (b : Fin 2) : ∀ a, ![b.val, 0, 0] a + S1x256x512.size a ≤ S2x256x512.size a := by
  revert b; decide

variable (c : Dev nD) (i : grid0.Coords) (arg1 : Memref sig .tc .vmem S2x1x1024x256 .bf16) (harg1 : arg1.IsWhole) (arg2 : Memref sig .tc .vmem S2x1x1024x256 .bf16) (harg2 : arg2.IsWhole) (arg3 : Memref sig .tc .vmem S2x1x1024x512 .bf16) (harg3 : arg3.IsWhole) (arg4 : Memref sig .tc .vmem S2x1x256x512 .f32) (harg4 : arg4.IsWhole) (arg5 : Memref sig .tc .vmem S2x1024x512 .bf16) (harg5 : arg5.IsWhole) (arg6 : Memref sig .tc .vmem S2x1x256x512 .f32) (harg6 : arg6.IsWhole) (arg7 : Memref sig .tc .vmem S2x1x1024x256 .fp8e4m3) (harg7 : arg7.IsWhole) (arg8 : Memref sig .tc .vmem S1x2x1024 .f32) (harg8 : arg8.IsWhole) (arg9 : Memref sig .tc .vmem S2x1x1024x256 .fp8e4m3) (harg9 : arg9.IsWhole) (arg10 : Memref sig .tc .vmem S1x2x1024 .f32) (harg10 : arg10.IsWhole) (arg11 : Memref sig .tc .vmem S2x1x1024x512 .fp8e4m3) (harg11 : arg11.IsWhole) (arg12 : Memref sig .tc .vmem S1x2x1024 .f32) (harg12 : arg12.IsWhole) (arg13 : Memref sig .tc .vmem S2x256x512 .f32) (harg13 : arg13.IsWhole) (arg14 : Memref sig .tc .vmem S128x128 .f32) (harg14 : arg14.IsWhole)
    (x0 : Vec F S2x1x1024x256 .bf16) (x1 : Vec F S2x1x1024x256 .bf16) (x2 : Vec F S2x1x1024x512 .bf16) (x3 : Vec F S2x1x256x512 .f32)

/-- What the units of grid point `i` read. -/
def rd : Reads F where
  q b n := View.readAt (Elt F) arg1.view (Rect.unit (s := S2x1x1024x256) ![b.val, 0, 128 * n.val, 0] S1x1x128x256.size (inb256 b n)).toLoadRect (harg1.unread x0)
  k b n := View.readAt (Elt F) arg2.view (Rect.unit (s := S2x1x1024x256) ![b.val, 0, 128 * n.val, 0] S1x1x128x256.size (inb256 b n)).toLoadRect (harg2.unread x1)
  v b n := View.readAt (Elt F) arg3.view (Rect.unit (s := S2x1x1024x512) ![b.val, 0, 128 * n.val, 0] S1x1x128x512.size (inb512 b n)).toLoadRect (harg3.unread x2)
  s b := View.readAt (Elt F) arg4.view (Rect.unit (s := S2x1x256x512) ![b.val, 0, 0, 0] S1x1x256x512.size (inbState b)).toLoadRect (harg4.unread x3)
  D := kernelRun0_A.sl.v212 c i arg14
  qd := k0_pay8 (k0_pay4 i) kernelRun0_A.sl.v20
  kd := k0_pay9 (k0_pay4 i) kernelRun0_A.sl.v20
  cd := k0_pay10 (k0_pay4 i)

/-- The stored codes of q. -/
theorem out6 : out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
    = View.canon (List.ofFn fun k : Fin 16 => (⟨Rect.unit (s := S2x1x1024x256) ![(bOf k).val, 0, 128 * (nOf k).val, 0] S1x1x128x256.size (inb256 (bOf k) (nOf k)),
        shapeCast S1x1x128x256 ((rd c i arg1 harg1 arg2 harg2 arg3 harg3 arg4 harg4 arg14 x0 x1 x2 x3).qn (bOf k) (nOf k)) shapeCasts_S128x256_S1x1x128x256⟩ : View.Piece (Elt F) S2x1x1024x256 .fp8e4m3)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)]
  unfold kernelRun0_A; dsimp only
  exact congrArg View.canon rfl

/-- The stored scales of q. -/
theorem out7 : out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
    = View.canon (List.ofFn fun k : Fin 16 => (⟨Rect.unit (s := S1x2x1024) ![0, (bOf k).val, 128 * (nOf k).val] S1x1x128.size (inbScale (bOf k) (nOf k)),
        shapeCast S1x1x128 (row0 ((rd c i arg1 harg1 arg2 harg2 arg3 harg3 arg4 harg4 arg14 x0 x1 x2 x3).rows (bOf k) (nOf k))) shapeCasts_S1x128_S1x1x128⟩ : View.Piece (Elt F) S1x2x1024 .f32)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)]
  unfold kernelRun0_A; dsimp only
  exact congrArg View.canon rfl

/-- The stored codes of k. -/
theorem out8 : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
    = View.canon (List.ofFn fun k : Fin 16 => (⟨Rect.unit (s := S2x1x1024x256) ![(bOf k).val, 0, 128 * (nOf k).val, 0] S1x1x128x256.size (inb256 (bOf k) (nOf k)),
        shapeCast S1x1x128x256 ((rd c i arg1 harg1 arg2 harg2 arg3 harg3 arg4 harg4 arg14 x0 x1 x2 x3).kn (bOf k) (nOf k)) shapeCasts_S128x256_S1x1x128x256⟩ : View.Piece (Elt F) S2x1x1024x256 .fp8e4m3)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)]
  unfold kernelRun0_A; dsimp only
  exact congrArg View.canon rfl

/-- The stored scales of k. -/
theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
    = View.canon (List.ofFn fun k : Fin 16 => (⟨Rect.unit (s := S1x2x1024) ![0, (bOf k).val, 128 * (nOf k).val] S1x1x128.size (inbScale (bOf k) (nOf k)),
        shapeCast S1x1x128 (row1 ((rd c i arg1 harg1 arg2 harg2 arg3 harg3 arg4 harg4 arg14 x0 x1 x2 x3).rows (bOf k) (nOf k))) shapeCasts_S1x128_S1x1x128⟩ : View.Piece (Elt F) S1x2x1024 .f32)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)]
  unfold kernelRun0_A; dsimp only
  exact congrArg View.canon rfl

/-- The stored codes of v. -/
theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
    = View.canon (List.ofFn fun k : Fin 16 => (⟨Rect.unit (s := S2x1x1024x512) ![(bOf k).val, 0, 128 * (nOf k).val, 0] S1x1x128x512.size (inb512 (bOf k) (nOf k)),
        shapeCast S1x1x128x512 ((rd c i arg1 harg1 arg2 harg2 arg3 harg3 arg4 harg4 arg14 x0 x1 x2 x3).vn (bOf k) (nOf k)) shapeCasts_S128x512_S1x1x128x512⟩ : View.Piece (Elt F) S2x1x1024x512 .fp8e4m3)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)]
  unfold kernelRun0_A; dsimp only
  exact congrArg View.canon rfl

/-- The stored scales of v. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
    = View.canon (List.ofFn fun k : Fin 16 => (⟨Rect.unit (s := S1x2x1024) ![0, (bOf k).val, 128 * (nOf k).val] S1x1x128.size (inbScale (bOf k) (nOf k)),
        shapeCast S1x1x128 (row2 ((rd c i arg1 harg1 arg2 harg2 arg3 harg3 arg4 harg4 arg14 x0 x1 x2 x3).rows (bOf k) (nOf k))) shapeCasts_S1x128_S1x1x128⟩ : View.Piece (Elt F) S1x2x1024 .f32)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)]
  unfold kernelRun0_A; dsimp only
  exact congrArg View.canon rfl

end Cert.Retention

end
-- ==== Proof.States.lean ====
/-
  The running state of one grid point: the stores into the state buffer, and what the loads of it read.
-/
module

public import proofs.«01_k».proof.Proof.Pieces
public import Idealize.ShloMosaic.Lib.Pipeline.ReadBack

@[expose] public section

set_option maxRecDepth 16384

noncomputable section

namespace Cert.Retention

open Idealize.ShloMosaic Idealize.ShloMosaic.TcCoe Idealize.ShloMosaic.Tactic
open Cert.KernelIdeal Cert.KernelIdeal.Gen

variable {F : FTy → Type} [FloatOps F]

namespace Reads

variable (R : Reads F) (arg13 : Memref sig .tc .vmem S2x256x512 .f32)

/-- The stores into the state buffer after `u` units, last first: each unit stores the state that follows the one it loads. -/
def hist : ℕ → List (View.Piece (Elt F) S2x256x512 .f32)
  | 0 => [⟨Rect.unit ![1, 0, 0] S1x256x512.size (inbS 1), R.start 1⟩, ⟨Rect.unit ![0, 0, 0] S1x256x512.size (inbS 0), R.start 0⟩]
  | u + 1 => ⟨Rect.unit ![(Fin.ofNat 2 u).val, 0, 0] S1x256x512.size (inbS (Fin.ofNat 2 u)),
      R.next (Fin.ofNat 2 u) (Fin.ofNat 8 (u / 2))
        (arg13.view.readCov (hist u) (Rect.unit (s := S2x256x512) ![(Fin.ofNat 2 u).val, 0, 0] S1x256x512.size (inbS (Fin.ofNat 2 u))).toLoadRect)⟩ :: hist u

/-- The load of batch entry `b`'s state after `u` units. -/
def load (u : ℕ) (b : Fin 2) : Vec F S1x256x512 .f32 :=
  arg13.view.readCov (hist R arg13 u) (Rect.unit (s := S2x256x512) ![b.val, 0, 0] S1x256x512.size (inbS b)).toLoadRect

theorem disj (b b' : Fin 2) (h : b ≠ b') : LoadRect.disj (Rect.unit (s := S2x256x512) ![b.val, 0, 0] S1x256x512.size (inbS b))
    (Rect.unit (s := S2x256x512) ![b'.val, 0, 0] S1x256x512.size (inbS b')).toLoadRect = true := by
  revert b b'; decide

/-- It is the state after as many chunks as the units have done for that entry. -/
theorem load_eq : ∀ (u : ℕ) (b : Fin 2), R.load arg13 u b = R.state b ((u + 1 - b.val) / 2)
  | 0, b => by
    rcases Fin.exists_fin_two.mp ⟨b, rfl⟩ with rfl | rfl
    · unfold load hist
      refine (View.readCov_skip _ _ _ _ _ (disj 1 0 (by decide))).trans ?_
      exact View.readCov_cons_toLoadRect _ _ _ _
    · unfold load hist
      exact View.readCov_cons_toLoadRect _ _ _ _
  | u + 1, b => by
    by_cases hb : b = Fin.ofNat 2 u
    · have hn : (u + 1 + 1 - b.val) / 2 = u / 2 + 1 := by
        have : b.val = u % 2 := by rw [hb]; rfl
        omega
      have hp : (u + 1 - b.val) / 2 = u / 2 := by
        have : b.val = u % 2 := by rw [hb]; rfl
        omega
      have ih := load_eq u b
      rw [hn]
      rw [hp] at ih
      subst hb
      refine Eq.trans ?_ (congrArg (R.next (Fin.ofNat 2 u) (Fin.ofNat 8 (u / 2))) ih)
      exact View.readCov_cons_toLoadRect _ _ _ _
    · have hn : (u + 1 + 1 - b.val) / 2 = (u + 1 - b.val) / 2 := by
        have : b.val ≠ u % 2 := fun h => hb (Fin.ext h)
        have := b.isLt
        omega
      rw [hn, ← load_eq u b]
      exact View.readCov_skip _ _ _ _ _ (disj _ _ (Ne.symm hb))

end Reads

variable (c : Dev nD) (i : grid0.Coords) (arg1 : Memref sig .tc .vmem S2x1x1024x256 .bf16) (harg1 : arg1.IsWhole) (arg2 : Memref sig .tc .vmem S2x1x1024x256 .bf16) (harg2 : arg2.IsWhole) (arg3 : Memref sig .tc .vmem S2x1x1024x512 .bf16) (harg3 : arg3.IsWhole) (arg4 : Memref sig .tc .vmem S2x1x256x512 .f32) (harg4 : arg4.IsWhole) (arg5 : Memref sig .tc .vmem S2x1024x512 .bf16) (harg5 : arg5.IsWhole) (arg6 : Memref sig .tc .vmem S2x1x256x512 .f32) (harg6 : arg6.IsWhole) (arg7 : Memref sig .tc .vmem S2x1x1024x256 .fp8e4m3) (harg7 : arg7.IsWhole) (arg8 : Memref sig .tc .vmem S1x2x1024 .f32) (harg8 : arg8.IsWhole) (arg9 : Memref sig .tc .vmem S2x1x1024x256 .fp8e4m3) (harg9 : arg9.IsWhole) (arg10 : Memref sig .tc .vmem S1x2x1024 .f32) (harg10 : arg10.IsWhole) (arg11 : Memref sig .tc .vmem S2x1x1024x512 .fp8e4m3) (harg11 : arg11.IsWhole) (arg12 : Memref sig .tc .vmem S1x2x1024 .f32) (harg12 : arg12.IsWhole) (arg13 : Memref sig .tc .vmem S2x256x512 .f32) (harg13 : arg13.IsWhole) (arg14 : Memref sig .tc .vmem S128x128 .f32) (harg14 : arg14.IsWhole)
    (x0 : Vec F S2x1x1024x256 .bf16) (x1 : Vec F S2x1x1024x256 .bf16) (x2 : Vec F S2x1x1024x512 .bf16) (x3 : Vec F S2x1x256x512 .f32)

/-! The stores into the state buffer, named one after the other, are that list. -/

theorem hist2 : kernelRun0_A.sl.HS0_2 c arg4 harg4 x3 = (rd c i arg1 harg1 arg2 harg2 arg3 harg3 arg4 harg4 arg14 x0 x1 x2 x3).hist arg13 0 := rfl
theorem hist3 : kernelRun0_A.sl.HS0_3 c i arg2 harg2 arg3 harg3 arg4 harg4 arg13 x1 x2 x3 = (rd c i arg1 harg1 arg2 harg2 arg3 harg3 arg4 harg4 arg14 x0 x1 x2 x3).hist arg13 1 := by
  unfold kernelRun0_A.sl.HS0_3 kernelRun0_A.sl.v220
  rw [hist2 c i arg1 harg1 arg2 harg2 arg3 harg3 arg4 harg4 arg13 arg14 x0 x1 x2 x3]
  rfl
theorem hist4 : kernelRun0_A.sl.HS0_4 c i arg2 harg2 arg3 harg3 arg4 harg4 arg13 x1 x2 x3 = (rd c i arg1 harg1 arg2 harg2 arg3 harg3 arg4 harg4 arg14 x0 x1 x2 x3).hist arg13 2 := by
  unfold kernelRun0_A.sl.HS0_4 kernelRun0_A.sl.v420
  rw [hist3 c i arg1 harg1 arg2 harg2 arg3 harg3 arg4 harg4 arg13 arg14 x0 x1 x2 x3]
  rfl
theorem hist5 : kernelRun0_A.sl.HS0_5 c i arg2 harg2 arg3 harg3 arg4 harg4 arg13 x1 x2 x3 = (rd c i arg1 harg1 arg2 harg2 arg3 harg3 arg4 harg4 arg14 x0 x1 x2 x3).hist arg13 3 := by
  unfold kernelRun0_A.sl.HS0_5 kernelRun0_A.sl.r_51 kernelRun0_A.sl.v620
  rw [hist4 c i arg1 harg1 arg2 harg2 arg3 harg3 arg4 harg4 arg13 arg14 x0 x1 x2 x3]
  rfl
theorem hist6 : kernelRun0_A.sl.HS0_6 c i arg2 harg2 arg3 harg3 arg4 harg4 arg13 x1 x2 x3 = (rd c i arg1 harg1 arg2 harg2 arg3 harg3 arg4 harg4 arg14 x0 x1 x2 x3).hist arg13 4 := by
  unfold kernelRun0_A.sl.HS0_6 kernelRun0_A.sl.v820
  rw [hist5 c i arg1 harg1 arg2 harg2 arg3 harg3 arg4 harg4 arg13 arg14 x0 x1 x2 x3]
  rfl
theorem hist7 : kernelRun0_A.sl.HS0_7 c i arg2 harg2 arg3 harg3 arg4 harg4 arg13 x1 x2 x3 = (rd c i arg1 harg1 arg2 harg2 arg3 harg3 arg4 harg4 arg14 x0 x1 x2 x3).hist arg13 5 := by
  unfold kernelRun0_A.sl.HS0_7 kernelRun0_A.sl.v1020
  rw [hist6 c i arg1 harg1 arg2 harg2 arg3 harg3 arg4 harg4 arg13 arg14 x0 x1 x2 x3]
  rfl
theorem hist8 : kernelRun0_A.sl.HS0_8 c i arg2 harg2 arg3 harg3 arg4 harg4 arg13 x1 x2 x3 = (rd c i arg1 harg1 arg2 harg2 arg3 harg3 arg4 harg4 arg14 x0 x1 x2 x3).hist arg13 6 := by
  unfold kernelRun0_A.sl.HS0_8 kernelRun0_A.sl.v1220
  rw [hist7 c i arg1 harg1 arg2 harg2 arg3 harg3 arg4 harg4 arg13 arg14 x0 x1 x2 x3]
  rfl
theorem hist9 : kernelRun0_A.sl.HS0_9 c i arg2 harg2 arg3 harg3 arg4 harg4 arg13 x1 x2 x3 = (rd c i arg1 harg1 arg2 harg2 arg3 harg3 arg4 harg4 arg14 x0 x1 x2 x3).hist arg13 7 := by
  unfold kernelRun0_A.sl.HS0_9 kernelRun0_A.sl.v1420
  rw [hist8 c i arg1 harg1 arg2 harg2 arg3 harg3 arg4 harg4 arg13 arg14 x0 x1 x2 x3]
  rfl
theorem hist10 : kernelRun0_A.sl.HS0_10 c i arg2 harg2 arg3 harg3 arg4 harg4 arg13 x1 x2 x3 = (rd c i arg1 harg1 arg2 harg2 arg3 harg3 arg4 harg4 arg14 x0 x1 x2 x3).hist arg13 8 := by
  unfold kernelRun0_A.sl.HS0_10 kernelRun0_A.sl.v1620
  rw [hist9 c i arg1 harg1 arg2 harg2 arg3 harg3 arg4 harg4 arg13 arg14 x0 x1 x2 x3]
  rfl
theorem hist11 : kernelRun0_A.sl.HS0_11 c i arg2 harg2 arg3 harg3 arg4 harg4 arg13 x1 x2 x3 = (rd c i arg1 harg1 arg2 harg2 arg3 harg3 arg4 harg4 arg14 x0 x1 x2 x3).hist arg13 9 := by
  unfold kernelRun0_A.sl.HS0_11 kernelRun0_A.sl.v1820
  rw [hist10 c i arg1 harg1 arg2 harg2 arg3 harg3 arg4 harg4 arg13 arg14 x0 x1 x2 x3]
  rfl
theorem hist12 : kernelRun0_A.sl.HS0_12 c i arg2 harg2 arg3 harg3 arg4 harg4 arg13 x1 x2 x3 = (rd c i arg1 harg1 arg2 harg2 arg3 harg3 arg4 harg4 arg14 x0 x1 x2 x3).hist arg13 10 := by
  unfold kernelRun0_A.sl.HS0_12 kernelRun0_A.sl.v2020
  rw [hist11 c i arg1 harg1 arg2 harg2 arg3 harg3 arg4 harg4 arg13 arg14 x0 x1 x2 x3]
  rfl
theorem hist13 : kernelRun0_A.sl.HS0_13 c i arg2 harg2 arg3 harg3 arg4 harg4 arg13 x1 x2 x3 = (rd c i arg1 harg1 arg2 harg2 arg3 harg3 arg4 harg4 arg14 x0 x1 x2 x3).hist arg13 11 := by
  unfold kernelRun0_A.sl.HS0_13 kernelRun0_A.sl.r_166 kernelRun0_A.sl.v2220
  rw [hist12 c i arg1 harg1 arg2 harg2 arg3 harg3 arg4 harg4 arg13 arg14 x0 x1 x2 x3]
  rfl
theorem hist14 : kernelRun0_A.sl.HS0_14 c i arg2 harg2 arg3 harg3 arg4 harg4 arg13 x1 x2 x3 = (rd c i arg1 harg1 arg2 harg2 arg3 harg3 arg4 harg4 arg14 x0 x1 x2 x3).hist arg13 12 := by
  unfold kernelRun0_A.sl.HS0_14 kernelRun0_A.sl.r_182 kernelRun0_A.sl.v2420
  rw [hist13 c i arg1 harg1 arg2 harg2 arg3 harg3 arg4 harg4 arg13 arg14 x0 x1 x2 x3]
  rfl
theorem hist15 : kernelRun0_A.sl.HS0_15 c i arg2 harg2 arg3 harg3 arg4 harg4 arg13 x1 x2 x3 = (rd c i arg1 harg1 arg2 harg2 arg3 harg3 arg4 harg4 arg14 x0 x1 x2 x3).hist arg13 13 := by
  unfold kernelRun0_A.sl.HS0_15 kernelRun0_A.sl.v2620
  rw [hist14 c i arg1 harg1 arg2 harg2 arg3 harg3 arg4 harg4 arg13 arg14 x0 x1 x2 x3]
  rfl
theorem hist16 : kernelRun0_A.sl.HS0_16 c i arg2 harg2 arg3 harg3 arg4 harg4 arg13 x1 x2 x3 = (rd c i arg1 harg1 arg2 harg2 arg3 harg3 arg4 harg4 arg14 x0 x1 x2 x3).hist arg13 14 := by
  unfold kernelRun0_A.sl.HS0_16 kernelRun0_A.sl.v2820
  rw [hist15 c i arg1 harg1 arg2 harg2 arg3 harg3 arg4 harg4 arg13 arg14 x0 x1 x2 x3]
  rfl
theorem hist17 : kernelRun0_A.sl.HS0_17 c i arg2 harg2 arg3 harg3 arg4 harg4 arg13 x1 x2 x3 = (rd c i arg1 harg1 arg2 harg2 arg3 harg3 arg4 harg4 arg14 x0 x1 x2 x3).hist arg13 15 := by
  unfold kernelRun0_A.sl.HS0_17 kernelRun0_A.sl.v3020
  rw [hist16 c i arg1 harg1 arg2 harg2 arg3 harg3 arg4 harg4 arg13 arg14 x0 x1 x2 x3]
  rfl
theorem hist18 : kernelRun0_A.sl.HS0_18 c i arg2 harg2 arg3 harg3 arg4 harg4 arg13 x1 x2 x3 = (rd c i arg1 harg1 arg2 harg2 arg3 harg3 arg4 harg4 arg14 x0 x1 x2 x3).hist arg13 16 := by
  unfold kernelRun0_A.sl.HS0_18 kernelRun0_A.sl.v3220
  rw [hist17 c i arg1 harg1 arg2 harg2 arg3 harg3 arg4 harg4 arg13 arg14 x0 x1 x2 x3]
  rfl

/-- The state each unit loads, last unit first. -/
def loads (k : Fin 16) : Vec F S1x256x512 .f32 :=
  ![kernelRun0_A.sl.v3220 c i arg2 harg2 arg3 harg3 arg4 harg4 arg13 x1 x2 x3, kernelRun0_A.sl.v3020 c i arg2 harg2 arg3 harg3 arg4 harg4 arg13 x1 x2 x3, kernelRun0_A.sl.v2820 c i arg2 harg2 arg3 harg3 arg4 harg4 arg13 x1 x2 x3, kernelRun0_A.sl.v2620 c i arg2 harg2 arg3 harg3 arg4 harg4 arg13 x1 x2 x3, kernelRun0_A.sl.v2420 c i arg2 harg2 arg3 harg3 arg4 harg4 arg13 x1 x2 x3, kernelRun0_A.sl.v2220 c i arg2 harg2 arg3 harg3 arg4 harg4 arg13 x1 x2 x3, kernelRun0_A.sl.v2020 c i arg2 harg2 arg3 harg3 arg4 harg4 arg13 x1 x2 x3, kernelRun0_A.sl.v1820 c i arg2 harg2 arg3 harg3 arg4 harg4 arg13 x1 x2 x3, kernelRun0_A.sl.v1620 c i arg2 harg2 arg3 harg3 arg4 harg4 arg13 x1 x2 x3, kernelRun0_A.sl.v1420 c i arg2 harg2 arg3 harg3 arg4 harg4 arg13 x1 x2 x3, kernelRun0_A.sl.v1220 c i arg2 harg2 arg3 harg3 arg4 harg4 arg13 x1 x2 x3, kernelRun0_A.sl.v1020 c i arg2 harg2 arg3 harg3 arg4 harg4 arg13 x1 x2 x3, kernelRun0_A.sl.v820 c i arg2 harg2 arg3 harg3 arg4 harg4 arg13 x1 x2 x3, kernelRun0_A.sl.v620 c i arg2 harg2 arg3 harg3 arg4 harg4 arg13 x1 x2 x3, kernelRun0_A.sl.v420 c i arg2 harg2 arg3 harg3 arg4 harg4 arg13 x1 x2 x3, kernelRun0_A.sl.v220 c arg4 harg4 arg13 x3] k

theorem loads_eq : ∀ k : Fin 16, loads c i arg2 harg2 arg3 harg3 arg4 harg4 arg13 x1 x2 x3 k = (rd c i arg1 harg1 arg2 harg2 arg3 harg3 arg4 harg4 arg14 x0 x1 x2 x3).load arg13 (15 - k.val) (bOf k) := by
  intro k
  fin_cases k
  · exact congrArg (fun L => arg13.view.readCov L (Rect.unit (s := S2x256x512) ![1, 0, 0] S1x256x512.size (inbS 1)).toLoadRect) (hist17 c i arg1 harg1 arg2 harg2 arg3 harg3 arg4 harg4 arg13 arg14 x0 x1 x2 x3)
  · exact congrArg (fun L => arg13.view.readCov L (Rect.unit (s := S2x256x512) ![0, 0, 0] S1x256x512.size (inbS 0)).toLoadRect) (hist16 c i arg1 harg1 arg2 harg2 arg3 harg3 arg4 harg4 arg13 arg14 x0 x1 x2 x3)
  · exact congrArg (fun L => arg13.view.readCov L (Rect.unit (s := S2x256x512) ![1, 0, 0] S1x256x512.size (inbS 1)).toLoadRect) (hist15 c i arg1 harg1 arg2 harg2 arg3 harg3 arg4 harg4 arg13 arg14 x0 x1 x2 x3)
  · exact congrArg (fun L => arg13.view.readCov L (Rect.unit (s := S2x256x512) ![0, 0, 0] S1x256x512.size (inbS 0)).toLoadRect) (hist14 c i arg1 harg1 arg2 harg2 arg3 harg3 arg4 harg4 arg13 arg14 x0 x1 x2 x3)
  · exact congrArg (fun L => arg13.view.readCov L (Rect.unit (s := S2x256x512) ![1, 0, 0] S1x256x512.size (inbS 1)).toLoadRect) (hist13 c i arg1 harg1 arg2 harg2 arg3 harg3 arg4 harg4 arg13 arg14 x0 x1 x2 x3)
  · exact congrArg (fun L => arg13.view.readCov L (Rect.unit (s := S2x256x512) ![0, 0, 0] S1x256x512.size (inbS 0)).toLoadRect) (hist12 c i arg1 harg1 arg2 harg2 arg3 harg3 arg4 harg4 arg13 arg14 x0 x1 x2 x3)
  · exact congrArg (fun L => arg13.view.readCov L (Rect.unit (s := S2x256x512) ![1, 0, 0] S1x256x512.size (inbS 1)).toLoadRect) (hist11 c i arg1 harg1 arg2 harg2 arg3 harg3 arg4 harg4 arg13 arg14 x0 x1 x2 x3)
  · exact congrArg (fun L => arg13.view.readCov L (Rect.unit (s := S2x256x512) ![0, 0, 0] S1x256x512.size (inbS 0)).toLoadRect) (hist10 c i arg1 harg1 arg2 harg2 arg3 harg3 arg4 harg4 arg13 arg14 x0 x1 x2 x3)
  · exact congrArg (fun L => arg13.view.readCov L (Rect.unit (s := S2x256x512) ![1, 0, 0] S1x256x512.size (inbS 1)).toLoadRect) (hist9 c i arg1 harg1 arg2 harg2 arg3 harg3 arg4 harg4 arg13 arg14 x0 x1 x2 x3)
  · exact congrArg (fun L => arg13.view.readCov L (Rect.unit (s := S2x256x512) ![0, 0, 0] S1x256x512.size (inbS 0)).toLoadRect) (hist8 c i arg1 harg1 arg2 harg2 arg3 harg3 arg4 harg4 arg13 arg14 x0 x1 x2 x3)
  · exact congrArg (fun L => arg13.view.readCov L (Rect.unit (s := S2x256x512) ![1, 0, 0] S1x256x512.size (inbS 1)).toLoadRect) (hist7 c i arg1 harg1 arg2 harg2 arg3 harg3 arg4 harg4 arg13 arg14 x0 x1 x2 x3)
  · exact congrArg (fun L => arg13.view.readCov L (Rect.unit (s := S2x256x512) ![0, 0, 0] S1x256x512.size (inbS 0)).toLoadRect) (hist6 c i arg1 harg1 arg2 harg2 arg3 harg3 arg4 harg4 arg13 arg14 x0 x1 x2 x3)
  · exact congrArg (fun L => arg13.view.readCov L (Rect.unit (s := S2x256x512) ![1, 0, 0] S1x256x512.size (inbS 1)).toLoadRect) (hist5 c i arg1 harg1 arg2 harg2 arg3 harg3 arg4 harg4 arg13 arg14 x0 x1 x2 x3)
  · exact congrArg (fun L => arg13.view.readCov L (Rect.unit (s := S2x256x512) ![0, 0, 0] S1x256x512.size (inbS 0)).toLoadRect) (hist4 c i arg1 harg1 arg2 harg2 arg3 harg3 arg4 harg4 arg13 arg14 x0 x1 x2 x3)
  · exact congrArg (fun L => arg13.view.readCov L (Rect.unit (s := S2x256x512) ![1, 0, 0] S1x256x512.size (inbS 1)).toLoadRect) (hist3 c i arg1 harg1 arg2 harg2 arg3 harg3 arg4 harg4 arg13 arg14 x0 x1 x2 x3)
  · exact congrArg (fun L => arg13.view.readCov L (Rect.unit (s := S2x256x512) ![0, 0, 0] S1x256x512.size (inbS 0)).toLoadRect) (hist2 c i arg1 harg1 arg2 harg2 arg3 harg3 arg4 harg4 arg13 arg14 x0 x1 x2 x3)

/-- The stored final states. -/
theorem out5 : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
    = View.canon (List.ofFn fun k : Fin 2 => (⟨Rect.unit (s := S2x1x256x512) ![(1 - k).val, 0, 0, 0] S1x1x256x512.size (inbState (1 - k)),
        shapeCast S1x1x256x512 (shapeCast S256x512 ((rd c i arg1 harg1 arg2 harg2 arg3 harg3 arg4 harg4 arg14 x0 x1 x2 x3).load arg13 16 (1 - k)) shapeCasts_S1x256x512_S256x512) shapeCasts_S256x512_S1x1x256x512⟩ : View.Piece (Elt F) S2x1x256x512 .f32)) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)]
  unfold kernelRun0_A; dsimp only
  unfold kernelRun0_A.sl.v3271 kernelRun0_A.sl.v3266
  rw [hist18 c i arg1 harg1 arg2 harg2 arg3 harg3 arg4 harg4 arg13 arg14 x0 x1 x2 x3]
  exact congrArg View.canon rfl

set_option maxHeartbeats 8000000 in
/-- The stored outputs. -/
theorem out4 : out0_A_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3
    = View.canon (List.ofFn fun k : Fin 16 => (⟨Rect.unit (s := S2x1024x512) ![(bOf k).val, 128 * (nOf k).val, 0] S1x128x512.size (inbOut (bOf k) (nOf k)),
        normOf ((rd c i arg1 harg1 arg2 harg2 arg3 harg3 arg4 harg4 arg14 x0 x1 x2 x3).outFrom (bOf k) (nOf k) (loads c i arg2 harg2 arg3 harg3 arg4 harg4 arg13 x1 x2 x3 k))⟩ : View.Piece (Elt F) S2x1024x512 .bf16)) := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)]
  unfold kernelRun0_A; dsimp only
  exact congrArg View.canon rfl

end Cert.Retention

end
-- ==== Proof.BlocksAt.lean ====
module

public import proofs.«01_k».proof.Proof.HeadAt
public import Idealize.ShloMosaic.Lib.Pipeline.ValueKit.Tiles
public import proofs.«01_k».proof.Proof.Pieces
public import proofs.«01_k».proof.Proof.States
public import Idealize.ShloMosaic.Lib.Pointwise

@[expose] public section

set_option maxRecDepth 16384

noncomputable section

namespace Cert.Retention

open Idealize.ShloMosaic Idealize.ShloMosaic.TcCoe Idealize.ShloMosaic.Tactic
open Cert.KernelIdeal Cert.KernelIdeal.Gen

/-- Token `i` of chunk `n`. -/
def tok (n : Fin 8) (i : Fin 128) : Fin 1024 := ⟨128 * n.val + i.val, by omega⟩

/-- Every token is one of a chunk's. -/
theorem exists_tok (t : Fin 1024) : ∃ n i, t = tok n i :=
  ⟨⟨t.val / 128, by omega⟩, ⟨t.val % 128, Nat.mod_lt _ (by decide)⟩, Fin.ext (by simp only [tok]; omega)⟩

/-- The store of unit `(b, n)` in the list of stores, last first. -/
def kOf (b : Fin 2) (n : Fin 8) : Fin 16 := ⟨15 - (2 * n.val + b.val), by omega⟩

theorem bOf_kOf (b : Fin 2) (n : Fin 8) : bOf (kOf b n) = b := by revert b n; decide
theorem nOf_kOf (b : Fin 2) (n : Fin 8) : nOf (kOf b n) = n := by revert b n; decide
theorem kOf_self : ∀ k : Fin 16, kOf (bOf k) (nOf k) = k := by decide
theorem kOf_eq {b : Fin 2} {n : Fin 8} {k : Fin 16} (h1 : b.val = (bOf k).val) (h2 : n.val = (nOf k).val) : k = kOf b n := by
  rw [Fin.ext h1, Fin.ext h2, kOf_self]
theorem sub_sub_one : ∀ b : Fin 2, 1 - (1 - b) = b := by decide

/-- The loads of the outputs read the state before their chunk. -/
theorem load_units (b : Fin 2) (n : Fin 8) : ((15 - (kOf b n).val) + 1 - (bOf (kOf b n)).val) / 2 = n.val := by revert b n; decide

/-- The 16 stores of 128 rows of 256, read at a token. -/
theorem tiles256 {e : EltTy} (P : Fin 16 → Vec Ideal S1x1x128x256 e) (b : Fin 2) (n : Fin 8) (j : Fin 128) (z : Fin 1) (d : Fin 256) :
    View.canon (List.ofFn fun k : Fin 16 => (⟨Rect.unit (s := S2x1x1024x256) ![(bOf k).val, 0, 128 * (nOf k).val, 0] S1x1x128x256.size (inb256 (bOf k) (nOf k)), P k⟩ : View.Piece (Elt Ideal) S2x1x1024x256 e)) (ix4 b z (tok n j) d)
      = P (kOf b n) (ix4 (0 : Fin 1) (0 : Fin 1) j d) := by
  refine View.canon_ofFn_unit_eq_of_forall (S := S2x1x1024x256) (fun k : Fin 16 => ![(bOf k).val, 0, 128 * (nOf k).val, 0]) S1x1x128x256.size (fun k => inb256 (bOf k) (nOf k)) P _ _ ⟨kOf b n, fun a => ?_⟩ fun k x hx => ?_
  · rw [bOf_kOf, nOf_kOf]; fin_cases a <;> simp [tok, ix4] <;> omega
  ·
    have h0 := hx 0
    have l0 : (x 0).val < 1 := (x 0).isLt
    have h1 := hx 1
    have l1 : (x 1).val < 1 := (x 1).isLt
    have h2 := hx 2
    have l2 : (x 2).val < 128 := (x 2).isLt
    have h3 := hx 3
    have l3 : (x 3).val < 256 := (x 3).isLt
    replace h0 : b.val = (bOf k).val + (x 0).val := h0
    replace h1 : z.val = 0 + (x 1).val := h1
    replace h2 : 128 * n.val + j.val = 128 * (nOf k).val + (x 2).val := h2
    replace h3 : d.val = 0 + (x 3).val := h3
    have ek : k = kOf b n := by first | (apply kOf_eq <;> omega) | (apply Fin.ext; simp only [sub_eq_iff_eq_add]; omega)
    have ex : x = (ix4 (0 : Fin 1) (0 : Fin 1) j d) := by
      funext a; apply Fin.ext; fin_cases a
      · show (x 0).val = 0; omega
      · show (x 1).val = 0; omega
      · show (x 2).val = j.val; omega
      · show (x 3).val = d.val; omega
    rw [ek, ex]

/-- The 16 stores of 128 rows of 512, read at a token. -/
theorem tiles512 {e : EltTy} (P : Fin 16 → Vec Ideal S1x1x128x512 e) (b : Fin 2) (n : Fin 8) (j : Fin 128) (z : Fin 1) (d : Fin 512) :
    View.canon (List.ofFn fun k : Fin 16 => (⟨Rect.unit (s := S2x1x1024x512) ![(bOf k).val, 0, 128 * (nOf k).val, 0] S1x1x128x512.size (inb512 (bOf k) (nOf k)), P k⟩ : View.Piece (Elt Ideal) S2x1x1024x512 e)) (ix4 b z (tok n j) d)
      = P (kOf b n) (ix4 (0 : Fin 1) (0 : Fin 1) j d) := by
  refine View.canon_ofFn_unit_eq_of_forall (S := S2x1x1024x512) (fun k : Fin 16 => ![(bOf k).val, 0, 128 * (nOf k).val, 0]) S1x1x128x512.size (fun k => inb512 (bOf k) (nOf k)) P _ _ ⟨kOf b n, fun a => ?_⟩ fun k x hx => ?_
  · rw [bOf_kOf, nOf_kOf]; fin_cases a <;> simp [tok, ix4] <;> omega
  ·
    have h0 := hx 0
    have l0 : (x 0).val < 1 := (x 0).isLt
    have h1 := hx 1
    have l1 : (x 1).val < 1 := (x 1).isLt
    have h2 := hx 2
    have l2 : (x 2).val < 128 := (x 2).isLt
    have h3 := hx 3
    have l3 : (x 3).val < 512 := (x 3).isLt
    replace h0 : b.val = (bOf k).val + (x 0).val := h0
    replace h1 : z.val = 0 + (x 1).val := h1
    replace h2 : 128 * n.val + j.val = 128 * (nOf k).val + (x 2).val := h2
    replace h3 : d.val = 0 + (x 3).val := h3
    have ek : k = kOf b n := by first | (apply kOf_eq <;> omega) | (apply Fin.ext; simp only [sub_eq_iff_eq_add]; omega)
    have ex : x = (ix4 (0 : Fin 1) (0 : Fin 1) j d) := by
      funext a; apply Fin.ext; fin_cases a
      · show (x 0).val = 0; omega
      · show (x 1).val = 0; omega
      · show (x 2).val = j.val; omega
      · show (x 3).val = d.val; omega
    rw [ek, ex]

/-- The 16 stores of 128 scales, read at a token. -/
theorem tilesScale {e : EltTy} (P : Fin 16 → Vec Ideal S1x1x128 e) (b : Fin 2) (n : Fin 8) (j : Fin 128) (z : Fin 1) :
    View.canon (List.ofFn fun k : Fin 16 => (⟨Rect.unit (s := S1x2x1024) ![0, (bOf k).val, 128 * (nOf k).val] S1x1x128.size (inbScale (bOf k) (nOf k)), P k⟩ : View.Piece (Elt Ideal) S1x2x1024 e)) (ix3 z b (tok n j))
      = P (kOf b n) (ix3 (0 : Fin 1) (0 : Fin 1) j) := by
  refine View.canon_ofFn_unit_eq_of_forall (S := S1x2x1024) (fun k : Fin 16 => ![0, (bOf k).val, 128 * (nOf k).val]) S1x1x128.size (fun k => inbScale (bOf k) (nOf k)) P _ _ ⟨kOf b n, fun a => ?_⟩ fun k x hx => ?_
  · rw [bOf_kOf, nOf_kOf]; fin_cases a <;> simp [tok, ix3] <;> omega
  ·
    have h0 := hx 0
    have l0 : (x 0).val < 1 := (x 0).isLt
    have h1 := hx 1
    have l1 : (x 1).val < 1 := (x 1).isLt
    have h2 := hx 2
    have l2 : (x 2).val < 128 := (x 2).isLt
    replace h0 : z.val = 0 + (x 0).val := h0
    replace h1 : b.val = (bOf k).val + (x 1).val := h1
    replace h2 : 128 * n.val + j.val = 128 * (nOf k).val + (x 2).val := h2
    have ek : k = kOf b n := by first | (apply kOf_eq <;> omega) | (apply Fin.ext; simp only [sub_eq_iff_eq_add]; omega)
    have ex : x = (ix3 (0 : Fin 1) (0 : Fin 1) j) := by
      funext a; apply Fin.ext; fin_cases a
      · show (x 0).val = 0; omega
      · show (x 1).val = 0; omega
      · show (x 2).val = j.val; omega
    rw [ek, ex]

/-- The 16 stores of 128 rows of outputs, read at a token. -/
theorem tilesOut {e : EltTy} (P : Fin 16 → Vec Ideal S1x128x512 e) (b : Fin 2) (n : Fin 8) (j : Fin 128) (w : Fin 512) :
    View.canon (List.ofFn fun k : Fin 16 => (⟨Rect.unit (s := S2x1024x512) ![(bOf k).val, 128 * (nOf k).val, 0] S1x128x512.size (inbOut (bOf k) (nOf k)), P k⟩ : View.Piece (Elt Ideal) S2x1024x512 e)) (ix3 b (tok n j) w)
      = P (kOf b n) (ix3 (0 : Fin 1) j w) := by
  refine View.canon_ofFn_unit_eq_of_forall (S := S2x1024x512) (fun k : Fin 16 => ![(bOf k).val, 128 * (nOf k).val, 0]) S1x128x512.size (fun k => inbOut (bOf k) (nOf k)) P _ _ ⟨kOf b n, fun a => ?_⟩ fun k x hx => ?_
  · rw [bOf_kOf, nOf_kOf]; fin_cases a <;> simp [tok, ix3] <;> omega
  ·
    have h0 := hx 0
    have l0 : (x 0).val < 1 := (x 0).isLt
    have h1 := hx 1
    have l1 : (x 1).val < 128 := (x 1).isLt
    have h2 := hx 2
    have l2 : (x 2).val < 512 := (x 2).isLt
    replace h0 : b.val = (bOf k).val + (x 0).val := h0
    replace h1 : 128 * n.val + j.val = 128 * (nOf k).val + (x 1).val := h1
    replace h2 : w.val = 0 + (x 2).val := h2
    have ek : k = kOf b n := by first | (apply kOf_eq <;> omega) | (apply Fin.ext; simp only [sub_eq_iff_eq_add]; omega)
    have ex : x = (ix3 (0 : Fin 1) j w) := by
      funext a; apply Fin.ext; fin_cases a
      · show (x 0).val = 0; omega
      · show (x 1).val = j.val; omega
      · show (x 2).val = w.val; omega
    rw [ek, ex]

/-- The two stores of the final state, read at an index. -/
theorem tilesState {e : EltTy} (P : Fin 2 → Vec Ideal S1x1x256x512 e) (b : Fin 2) (z : Fin 1) (d : Fin 256) (w : Fin 512) :
    View.canon (List.ofFn fun k : Fin 2 => (⟨Rect.unit (s := S2x1x256x512) ![(1 - k).val, 0, 0, 0] S1x1x256x512.size (inbState (1 - k)), P k⟩ : View.Piece (Elt Ideal) S2x1x256x512 e)) (ix4 b z d w)
      = P (1 - b) (ix4 (0 : Fin 1) (0 : Fin 1) d w) := by
  refine View.canon_ofFn_unit_eq_of_forall (S := S2x1x256x512) (fun k : Fin 2 => ![(1 - k).val, 0, 0, 0]) S1x1x256x512.size (fun k => inbState (1 - k)) P _ _ ⟨1 - b, fun a => ?_⟩ fun k x hx => ?_
  · rw [sub_sub_one]; fin_cases a <;> simp [ix4]
  · have h0 : b.val = (1 - k : Fin 2).val + (x 0).val := hx 0
    have h2 : d.val = 0 + (x 2).val := hx 2
    have h3 : w.val = 0 + (x 3).val := hx 3
    have l0 : (x 0).val < 1 := (x 0).isLt
    have l1 : (x 1).val < 1 := (x 1).isLt
    have ek : k = 1 - b := by rw [show b = 1 - k from Fin.ext (by omega), sub_sub_one]
    have ex : x = ix4 (0 : Fin 1) (0 : Fin 1) d w := by
      funext a; apply Fin.ext; fin_cases a
      · show (x 0).val = 0; omega
      · show (x 1).val = 0; omega
      · show (x 2).val = d.val; omega
      · show (x 3).val = w.val; omega
    rw [ek, ex]

variable (c : Dev nD) (i : grid0.Coords) (arg1 : Memref sig .tc .vmem S2x1x1024x256 .bf16) (harg1 : arg1.IsWhole) (arg2 : Memref sig .tc .vmem S2x1x1024x256 .bf16) (harg2 : arg2.IsWhole) (arg3 : Memref sig .tc .vmem S2x1x1024x512 .bf16) (harg3 : arg3.IsWhole) (arg4 : Memref sig .tc .vmem S2x1x256x512 .f32) (harg4 : arg4.IsWhole) (arg5 : Memref sig .tc .vmem S2x1024x512 .bf16) (harg5 : arg5.IsWhole) (arg6 : Memref sig .tc .vmem S2x1x256x512 .f32) (harg6 : arg6.IsWhole) (arg7 : Memref sig .tc .vmem S2x1x1024x256 .fp8e4m3) (harg7 : arg7.IsWhole) (arg8 : Memref sig .tc .vmem S1x2x1024 .f32) (harg8 : arg8.IsWhole) (arg9 : Memref sig .tc .vmem S2x1x1024x256 .fp8e4m3) (harg9 : arg9.IsWhole) (arg10 : Memref sig .tc .vmem S1x2x1024 .f32) (harg10 : arg10.IsWhole) (arg11 : Memref sig .tc .vmem S2x1x1024x512 .fp8e4m3) (harg11 : arg11.IsWhole) (arg12 : Memref sig .tc .vmem S1x2x1024 .f32) (harg12 : arg12.IsWhole) (arg13 : Memref sig .tc .vmem S2x256x512 .f32) (harg13 : arg13.IsWhole) (arg14 : Memref sig .tc .vmem S128x128 .f32) (harg14 : arg14.IsWhole)
    (x0 : Vec Ideal S2x1x1024x256 .bf16) (x1 : Vec Ideal S2x1x1024x256 .bf16) (x2 : Vec Ideal S2x1x1024x512 .bf16) (x3 : Vec Ideal S2x1x256x512 .f32)

/-- The head a grid point's blocks hold for batch entry `b`. -/
def blockHead (x0 x1 : Vec Ideal S2x1x1024x256 .bf16) (x2 : Vec Ideal S2x1x1024x512 .bf16) (x3 : Vec Ideal S2x1x256x512 .f32)
    (lg : EReal) (b : Fin 2) : Head where
  q n i d := x0 (ix4 b 0 (tok n i) d)
  k n i d := x1 (ix4 b 0 (tok n i) d)
  v n i d := x2 (ix4 b 0 (tok n i) d)
  s d e := x3 (ix4 b 0 d e)
  lg := lg

theorem readAt_at {S : Shape} {e : EltTy} (m : Memref sig .tc .vmem S e) (hm : m.IsWhole) (x : Vec Ideal S e) (off : Fin S.rank → ℕ)
    (size : Fin S.rank → ℕ) (inb) (y : (Rect.unit (s := S) off size inb).shape.Idx) (z : S.Idx) (h : ∀ a, (z a : ℕ) = off a + y a) :
    View.readAt (Elt Ideal) m.view (Rect.unit (s := S) off size inb).toLoadRect (hm.unread x) y = x z := by
  rw [View.readAt_eq_ld, hm.read_unread]
  exact View.ld_unit_apply_of x off size inb y z h

theorem agrees (b : Fin 2) : Agrees (rd c i arg1 harg1 arg2 harg2 arg3 harg3 arg4 harg4 arg14 x0 x1 x2 x3) b (blockHead x0 x1 x2 x3 (lgS (i 0)) b) where
  q n j d := readAt_at arg1 harg1 x0 _ _ _ _ _ (fun a => by fin_cases a <;> simp [tok, ix4])
  k n j d := readAt_at arg2 harg2 x1 _ _ _ _ _ (fun a => by fin_cases a <;> simp [tok, ix4])
  v n j d := readAt_at arg3 harg3 x2 _ _ _ _ _ (fun a => by fin_cases a <;> simp [tok, ix4])
  s d e := readAt_at arg4 harg4 x3 _ _ _ _ _ (fun a => by fin_cases a <;> simp [ix4])
  D z e := by
    show kernelRun0_A.sl.v212 c i arg14 (ix2 z e) = _
    unfold kernelRun0_A.sl.v212 kernelRun0_A.sl.HS1_1
    rw [View.readCov_unit_zero _ (by funext a; fin_cases a <;> rfl)]
    unfold k0_pay6
    pointwise
    exact pay5_at i z e
  qd z := pay8_at i z 0
  kd z := pay9_at i z 0
  cd := pay10_at i 0 0

section
variable (b : Fin 2) (n : Fin 8) (j : Fin 128)

/-- The codes of q. -/
theorem out6_at (z : Fin 1) (d : Fin 256) : out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix4 b z (tok n j) d) = (blockHead x0 x1 x2 x3 (lgS (i 0)) b).qn n j d := by
  rw [out6]
  refine (tiles256 _ b n j z d).trans ?_
  rw [bOf_kOf, nOf_kOf]
  refine Eq.trans ?_ ((agrees c i arg1 harg1 arg2 harg2 arg3 harg3 arg4 harg4 arg14 x0 x1 x2 x3 b).qn n j d)
  pointwise

/-- The scales of q. -/
theorem out7_at (z : Fin 1) : out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix3 z b (tok n j)) = (blockHead x0 x1 x2 x3 (lgS (i 0)) b).qs n j := by
  rw [out7]
  refine (tilesScale _ b n j z).trans ?_
  rw [bOf_kOf, nOf_kOf]
  refine Eq.trans ?_ ((agrees c i arg1 harg1 arg2 harg2 arg3 harg3 arg4 harg4 arg14 x0 x1 x2 x3 b).r0 n 0 j)
  pointwise

/-- The codes of k. -/
theorem out8_at (z : Fin 1) (d : Fin 256) : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix4 b z (tok n j) d) = (blockHead x0 x1 x2 x3 (lgS (i 0)) b).kn n j d := by
  rw [out8]
  refine (tiles256 _ b n j z d).trans ?_
  rw [bOf_kOf, nOf_kOf]
  refine Eq.trans ?_ ((agrees c i arg1 harg1 arg2 harg2 arg3 harg3 arg4 harg4 arg14 x0 x1 x2 x3 b).kn n j d)
  pointwise

/-- The scales of k. -/
theorem out9_at (z : Fin 1) : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix3 z b (tok n j)) = (blockHead x0 x1 x2 x3 (lgS (i 0)) b).ks n j := by
  rw [out9]
  refine (tilesScale _ b n j z).trans ?_
  rw [bOf_kOf, nOf_kOf]
  refine Eq.trans ?_ ((agrees c i arg1 harg1 arg2 harg2 arg3 harg3 arg4 harg4 arg14 x0 x1 x2 x3 b).r1 n 0 j)
  pointwise

/-- The codes of v. -/
theorem out10_at (z : Fin 1) (d : Fin 512) : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix4 b z (tok n j) d) = (blockHead x0 x1 x2 x3 (lgS (i 0)) b).vn n j d := by
  rw [out10]
  refine (tiles512 _ b n j z d).trans ?_
  rw [bOf_kOf, nOf_kOf]
  refine Eq.trans ?_ ((agrees c i arg1 harg1 arg2 harg2 arg3 harg3 arg4 harg4 arg14 x0 x1 x2 x3 b).vn n j d)
  pointwise

/-- The scales of v. -/
theorem out11_at (z : Fin 1) : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix3 z b (tok n j)) = (blockHead x0 x1 x2 x3 (lgS (i 0)) b).vs n j := by
  rw [out11]
  refine (tilesScale _ b n j z).trans ?_
  rw [bOf_kOf, nOf_kOf]
  refine Eq.trans ?_ ((agrees c i arg1 harg1 arg2 harg2 arg3 harg3 arg4 harg4 arg14 x0 x1 x2 x3 b).r2 n 0 j)
  pointwise

/-- The final state. -/
theorem out5_at (z : Fin 1) (d : Fin 256) (e : Fin 512) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix4 b z d e) = (blockHead x0 x1 x2 x3 (lgS (i 0)) b).state 8 d e := by
  rw [out5]
  refine (tilesState _ b z d e).trans ?_
  rw [sub_sub_one, Reads.load_eq, show (16 + 1 - b.val) / 2 = 8 by omega]
  refine Eq.trans ?_ ((agrees c i arg1 harg1 arg2 harg2 arg3 harg3 arg4 harg4 arg14 x0 x1 x2 x3 b).state 8 0 d e)
  pointwise

/-- The outputs. -/
theorem out4_at (e : Fin 512) : out0_A_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 (ix3 b (tok n j) e) = (blockHead x0 x1 x2 x3 (lgS (i 0)) b).out n j e := by
  rw [out4]
  refine (tilesOut _ b n j e).trans ?_
  rw [loads_eq c i arg1 harg1 arg2 harg2 arg3 harg3 arg4 harg4 arg13 arg14 x0 x1 x2 x3 (kOf b n), Reads.load_eq, load_units, bOf_kOf, nOf_kOf]
  exact (agrees c i arg1 harg1 arg2 harg2 arg3 harg3 arg4 harg4 arg14 x0 x1 x2 x3 b).out n 0 j e

end

end Cert.Retention

end
-- ==== Proof.RefTables.lean ====
/-
  What the reference computes before its loop, at an index: the codes and scales cut into chunks, and the decay tables.
-/
module

public import proofs.«01_k».proof.Proof.Gen.ReferenceIdeal.Step
public import proofs.«01_k».proof.Proof.RefQuant
public import proofs.«01_k».proof.Proof.BlocksAt
public import Idealize.ShloMosaic.Lib.Pointwise

@[expose] public section

set_option maxRecDepth 16384

noncomputable section

namespace Cert.Retention.Ref

open Idealize.ShloMosaic Idealize.ShloMosaic.TcCoe Idealize.ShloMosaic.Tactic
open Cert.ReferenceIdeal Cert.ReferenceIdeal.Gen Cert.ReferenceIdeal.Step Cert.Retention

/-- The place of a token among the others. -/
theorem tok_eq (n : Fin 8) (i : Fin 128) (hp : n.val * 128 + i.val < 1024) : (⟨n.val * 128 + i.val, hp⟩ : Fin 1024) = tok n i :=
  Fin.ext (by simp only [tok]; omega)

theorem chunk256_at (y : FVec Ideal S2x1024x10x256 .f32) (n : Fin 8) (b : Fin 2) (h : Fin 10) (i : Fin 128) (d : Fin 256) :
    transpose S8x2x10x128x256 [1, 0, 3, 2, 4] (shapeCast S2x8x128x10x256 y shapeCasts_S2x1024x10x256_S2x8x128x10x256)
      transposes_S2x8x128x10x256_S8x2x10x128x256_1_0_3_2_4 (ix5 n b h i d) = y (ix4 b (tok n i) h d) := by
  pointwise
  rw [tok_eq]

theorem chunk512_at (y : FVec Ideal S2x1024x10x512 .f32) (n : Fin 8) (b : Fin 2) (h : Fin 10) (i : Fin 128) (d : Fin 512) :
    transpose S8x2x10x128x512 [1, 0, 3, 2, 4] (shapeCast S2x8x128x10x512 y shapeCasts_S2x1024x10x512_S2x8x128x10x512)
      transposes_S2x8x128x10x512_S8x2x10x128x512_1_0_3_2_4 (ix5 n b h i d) = y (ix4 b (tok n i) h d) := by
  pointwise
  rw [tok_eq]

theorem chunkS_at (y : FVec Ideal S2x1024x10 .f32) (n : Fin 8) (b : Fin 2) (h : Fin 10) (i : Fin 128) :
    transpose S8x2x10x128 [1, 0, 3, 2] (shapeCast S2x8x128x10 y shapeCasts_S2x1024x10_S2x8x128x10)
      transposes_S2x8x128x10_S8x2x10x128_1_0_3_2 (ix4 n b h i) = y (ix3 b (tok n i) h) := by
  pointwise
  rw [tok_eq]

/-- The log decays. -/
theorem lg_at (h : Fin 10) : K_main_v76 (F := Ideal) (ix1 h) = lgS h := by
  fin_cases h <;> rfl

theorem pos_at (i : Fin 128) : K_main_v77 (F := Ideal) (ix1 i) = posS i := by
  pointwise [K_main_v77]
  exact posS_eq i

theorem diff_at (i j : Fin 128) : K_main_v82 (F := Ideal) (ix2 i j) = posS i - posS j := by
  rw [← pos_at, ← pos_at]
  pointwise [K_main_v82, K_main_v81, K_main_v80, K_main_v79, K_main_v78]

theorem causal_at (i j : Fin 128) : K_main_v84 (F := Ideal) (ix2 i j) = if j ≤ i then 1#1 else 0#1 := by
  pointwise [K_main_v84, K_main_v83, K_main_cst_33]
  rw [diff_at]
  by_cases hc : j ≤ i
  · rw [if_pos hc, decide_eq_true ((posS_sub_nonneg i j).2 hc)]; rfl
  · rw [if_neg hc, decide_eq_false (fun h => hc ((posS_sub_nonneg i j).1 h))]; rfl

theorem mask_at (h : Fin 10) (i j : Fin 128) : K_main_v92 (F := Ideal) (ix3 h i j) = maskS (lgS h) i j := by
  pointwise [K_main_v92, K_main_v91, K_main_v90, K_main_v89, K_main_v88, K_main_v87, K_main_v86, K_main_v85]
  rw [show K_main_call7_v1 (F := Ideal) (ix3 h i j) = K_main_v84 (F := Ideal) (ix2 i j) by pointwise [K_main_call7_v1], causal_at, diff_at, lg_at]
  unfold maskS
  by_cases hc : j ≤ i
  · simp only [if_pos hc]; rfl
  · simp only [if_neg hc]
    pointwise [K_main_call7_v2, K_main_call7_v0, K_main_cst_35]
    show Ideal.ofBits .f32 0#32 = 0
    simp [Ideal.ofBits, Ideal.ieee]

theorem kd_at (h : Fin 10) (i : Fin 128) : K_main_v101 (F := Ideal) (ix2 h i) = kdS (lgS h) i := by
  pointwise [K_main_v101, K_main_v100, K_main_v99, K_main_v98, K_main_v97, K_main_v96, K_main_v95, K_main_v94, K_main_v93]
  rw [pos_at, lg_at]
  pointwise [K_main_cst_36]
  first | done | rfl

theorem qd_at (h : Fin 10) (i : Fin 128) : K_main_v110 (F := Ideal) (ix2 h i) = qdS (lgS h) i := by
  pointwise [K_main_v110, K_main_v109, K_main_v108, K_main_v107, K_main_v106, K_main_v105, K_main_v104, K_main_v103, K_main_v102]
  rw [pos_at, lg_at]
  pointwise [K_main_cst_37]
  first | done | rfl

theorem cd_at (h : Fin 10) (y z : Fin 1) : K_main_v114 (F := Ideal) (ix3 h y z) = cdS (lgS h) := by
  pointwise [K_main_v114, K_main_v113, K_main_v112, K_main_v111]
  rw [lg_at]
  pointwise [K_main_cst_38]
  first | done | rfl

end Cert.Retention.Ref

end
-- ==== Proof.RefSlices.lean ====
/-
  One trip of the reference's loop reads one chunk of its codes and scales, and writes one chunk of its outputs.
-/
module

public import proofs.«01_k».proof.Proof.Gen.ReferenceIdeal.Step
public import proofs.«01_k».proof.Proof.RefTables
public import Idealize.ShloMosaic.Lib.DynamicIndex
public import Idealize.ShloMosaic.Lib.Pointwise

@[expose] public section

set_option maxRecDepth 16384

noncomputable section

namespace Cert.Retention.Ref

open Idealize.ShloMosaic Idealize.ShloMosaic.TcCoe Idealize.ShloMosaic.Tactic
open Cert.ReferenceIdeal Cert.ReferenceIdeal.Gen Cert.ReferenceIdeal.Step Cert.Retention

theorem slice256_at (x : FVec Ideal S8x2x10x128x256 .f32) (start : Fin 5 → Int) (n : Fin 8)
    (hs : ∀ a, start a = ((![n.val, 0,0,0,0] : Fin 5 → ℕ) a : Int)) (b : Fin 2) (h : Fin 10) (i : Fin 128) (d : Fin 256) :
    shapeCast S2x10x128x256 (Host.dynamicSlice S1x2x10x128x256 x start sliceFits_S8x2x10x128x256_S1x2x10x128x256) shapeCasts_S1x2x10x128x256_S2x10x128x256 (ix4 b h i d) = x (ix5 n b h i d) := by
  have e := Host.dynamicSlice_eq_extractStridedSlice S1x2x10x128x256 x start ![n.val, 0,0,0,0] sliceFits_S8x2x10x128x256_S1x2x10x128x256 ⟨rfl, fun a => by have := n.isLt; fin_cases a <;> simp [S8x2x10x128x256, S1x2x10x128x256] <;> omega⟩ hs
  rw [e]
  pointwise

theorem slice512_at (x : FVec Ideal S8x2x10x128x512 .f32) (start : Fin 5 → Int) (n : Fin 8)
    (hs : ∀ a, start a = ((![n.val, 0,0,0,0] : Fin 5 → ℕ) a : Int)) (b : Fin 2) (h : Fin 10) (i : Fin 128) (d : Fin 512) :
    shapeCast S2x10x128x512 (Host.dynamicSlice S1x2x10x128x512 x start sliceFits_S8x2x10x128x512_S1x2x10x128x512) shapeCasts_S1x2x10x128x512_S2x10x128x512 (ix4 b h i d) = x (ix5 n b h i d) := by
  have e := Host.dynamicSlice_eq_extractStridedSlice S1x2x10x128x512 x start ![n.val, 0,0,0,0] sliceFits_S8x2x10x128x512_S1x2x10x128x512 ⟨rfl, fun a => by have := n.isLt; fin_cases a <;> simp [S8x2x10x128x512, S1x2x10x128x512] <;> omega⟩ hs
  rw [e]
  pointwise

theorem sliceS_at (x : FVec Ideal S8x2x10x128 .f32) (start : Fin 4 → Int) (n : Fin 8)
    (hs : ∀ a, start a = ((![n.val, 0,0,0] : Fin 4 → ℕ) a : Int)) (b : Fin 2) (h : Fin 10) (i : Fin 128) :
    shapeCast S2x10x128 (Host.dynamicSlice S1x2x10x128 x start sliceFits_S8x2x10x128_S1x2x10x128) shapeCasts_S1x2x10x128_S2x10x128 (ix3 b h i) = x (ix4 n b h i) := by
  have e := Host.dynamicSlice_eq_extractStridedSlice S1x2x10x128 x start ![n.val, 0,0,0] sliceFits_S8x2x10x128_S1x2x10x128 ⟨rfl, fun a => by have := n.isLt; fin_cases a <;> simp [S8x2x10x128, S1x2x10x128] <;> omega⟩ hs
  rw [e]
  pointwise

theorem update_at (x : FVec Ideal S8x2x128x10x512 .bf16) (y : FVec Ideal S1x2x128x10x512 .bf16) (start : Fin 5 → Int) (n : Fin 8)
    (hs : ∀ a, start a = ((![n.val, 0, 0, 0, 0] : Fin 5 → ℕ) a : Int)) (n' : Fin 8) (b : Fin 2) (i : Fin 128) (h : Fin 10) (e : Fin 512) :
    Host.dynamicUpdateSlice x y start updateFits_S8x2x128x10x512_S1x2x128x10x512 (ix5 n' b i h e)
      = if n' = n then y (ix5 0 b i h e) else x (ix5 n' b i h e) := by
  have e := Host.dynamicUpdateSlice_eq_updateSlice x y start updateFits_S8x2x128x10x512_S1x2x128x10x512 ![n.val, 0, 0, 0, 0] (fun a => by have := n.isLt; rw [hs a]; fin_cases a <;> simp [S8x2x128x10x512, S1x2x128x10x512] <;> omega)
    ⟨rfl, fun a => by have := n.isLt; fin_cases a <;> simp [S8x2x128x10x512, S1x2x128x10x512] <;> omega⟩
  rw [e]
  pointwise
  by_cases hn : n' = n
  · subst hn
    rw [dif_pos ⟨le_refl _, Nat.lt_succ_self _⟩, if_pos rfl]
    congr 2
    exact Fin.ext (Nat.sub_self _)
  · rw [dif_neg (fun hc => hn (Fin.ext (by omega))), if_neg hn]

/-- The starts of a trip's slices. -/
theorem start5 (n : Fin 8) (a : Fin 5) :
    ((((![(constantI S_ 32 (BitVec.ofNat 32 n.val) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a) (Shape.Idx.first h_S_)).toInt)
      = ((![n.val, 0, 0, 0, 0] : Fin 5 → ℕ) a : Int) := by
  have h : (BitVec.ofNat 32 n.val).toInt = (n.val : Int) := toInt_ofNat_of_lt (by have := n.isLt; omega)
  fin_cases a
  · exact h
  all_goals rfl

theorem start4 (n : Fin 8) (a : Fin 4) :
    ((((![(constantI S_ 32 (BitVec.ofNat 32 n.val) : (⟨S_, .i32⟩ : BufTy).Contents (Elt Ideal)), constantI S_ 32 0#32, constantI S_ 32 0#32, constantI S_ 32 0#32] : Fin 4 → (⟨S_, .i32⟩ : BufTy).Contents (Elt Ideal)) a) (Shape.Idx.first h_S_)).toInt)
      = ((![n.val, 0, 0, 0] : Fin 4 → ℕ) a : Int) := by
  have h : (BitVec.ofNat 32 n.val).toInt = (n.val : Int) := toInt_ofNat_of_lt (by have := n.isLt; omega)
  fin_cases a
  · exact h
  all_goals rfl

variable (s : State Ideal) (n : Fin 8) (b : Fin 2) (h : Fin 10) (i j : Fin 128)

theorem b5_at (d : Fin 256) : b5 n.val s (ix4 b h i d) = s.main_v128_0 (ix5 n b h i d) := slice256_at _ _ n (start5 n) b h i d
theorem b11_at (d : Fin 256) : b11 n.val s (ix4 b h i d) = s.main_v128_1 (ix5 n b h i d) := slice256_at _ _ n (start5 n) b h i d
theorem b17_at (d : Fin 512) : b17 n.val s (ix4 b h i d) = s.main_v128_2 (ix5 n b h i d) := slice512_at _ _ n (start5 n) b h i d
theorem b22_at : b22 n.val s (ix3 b h i) = s.main_v128_3 (ix4 n b h i) := sliceS_at _ _ n (start4 n) b h i
theorem b27_at : b27 n.val s (ix3 b h i) = s.main_v128_4 (ix4 n b h i) := sliceS_at _ _ n (start4 n) b h i
theorem b32_at : b32 n.val s (ix3 b h i) = s.main_v128_5 (ix4 n b h i) := sliceS_at _ _ n (start4 n) b h i

theorem b110_at (n' : Fin 8) (e : Fin 512) :
    b110 n.val s (ix5 n' b i h e) = if n' = n then b98 n.val s (ix4 b h i e) else s.main_v128_12 (ix5 n' b i h e) := by
  refine (update_at _ _ _ n (start5 n) n' b i h e).trans ?_
  by_cases hn : n' = n
  · simp only [if_pos hn]
    pointwise [b105, b100, b99]
  · simp only [if_neg hn]

end Cert.Retention.Ref

end
-- ==== Proof.RefStep.lean ====
/-
  One trip of the reference's loop, at an index: the scores, the outputs and the next state of every head, as the scalar
  formulas give them from the trip's chunk.
-/
module

public import proofs.«01_k».proof.Proof.Gen.ReferenceIdeal.Step
public import proofs.«01_k».proof.Proof.RefSlices
public import Idealize.ShloMosaic.Lib.Pointwise

@[expose] public section

set_option maxRecDepth 16384

noncomputable section

namespace Cert.Retention.Ref

open Idealize.ShloMosaic Idealize.ShloMosaic.TcCoe Idealize.ShloMosaic.Tactic
open Cert.ReferenceIdeal Cert.ReferenceIdeal.Gen Cert.ReferenceIdeal.Step Cert.Retention

/-- The word of 512. -/
theorem w512_eq : Ideal.ofBits .f32 1140850688#32 = ((512 : ℝ) : EReal) := by
  simp [Ideal.ofBits, Ideal.ieee]
  norm_num [← EReal.coe_mul]

/-- The word of 1/512. -/
theorem winv_eq : Ideal.ofBits .f32 989855744#32 = ((1 / 512 : ℝ) : EReal) := by
  simp [Ideal.ofBits, Ideal.ieee]
  norm_num [← EReal.coe_mul]

/-- A sum divided by 512 is the mean. -/
theorem mean_eq (o : Fin 512 → EReal) : Ideal.div (∑ x, o x) (Ideal.ofBits .f32 1140850688#32) = meanS o := by
  rw [w512_eq, Ideal.div_coe (by norm_num)]
  unfold meanS
  rw [winv_eq]

/-- The state holds the chunks of the heads `H`, and before trip `n` their states. -/
structure Holds (s : State Ideal) (H : Fin 2 → Fin 10 → Head) (n : ℕ) : Prop where
  lg : ∀ b h, (H b h).lg = lgS h
  qn : ∀ n b h i d, s.main_v128_0 (ix5 n b h i d) = (H b h).qn n i d
  kn : ∀ n b h i d, s.main_v128_1 (ix5 n b h i d) = (H b h).kn n i d
  vn : ∀ n b h i d, s.main_v128_2 (ix5 n b h i d) = (H b h).vn n i d
  qs : ∀ n b h i, s.main_v128_3 (ix4 n b h i) = (H b h).qs n i
  ks : ∀ n b h i, s.main_v128_4 (ix4 n b h i) = (H b h).ks n i
  vs : ∀ n b h i, s.main_v128_5 (ix4 n b h i) = (H b h).vs n i
  state : ∀ b h d e, s.main_v128_11 (ix4 b h d e) = (H b h).state n d e
  rows : ∀ (m : Fin 8) b i h e, m.val < n → s.main_v128_12 (ix5 m b i h e) = (H b h).out m i e

variable {s : State Ideal} {H : Fin 2 → Fin 10 → Head} {n : Fin 8} (hs : Holds s H n.val) (b : Fin 2) (h : Fin 10) (i j : Fin 128)

include hs

theorem score_at : b51 n.val s (ix4 b h i j) = (H b h).score n i j := by
  pointwise [b51, b50, b49, b48, b47, b46, b45, b44, b43, b42, b41, b40, b39, b38, b37, b36, b35, b34]
  simp only [b5_at, b11_at, b22_at, b27_at, b32_at, hs.qn, hs.kn, hs.qs, hs.ks, hs.vs, mask_at]
  rw [mul_comm (Ideal.ofBits .f32 1031798784#32)]
  unfold Head.score
  rw [hs.lg]; rfl

theorem cross_at (e : Fin 512) : b64 n.val s (ix4 b h i e)
    = (∑ d, (H b h).qn n i d * (H b h).state n.val d e) * ((H b h).qs n i * (qdS (lgS h) i * smS)) := by
  pointwise [b64, b63, b62, b61, b60, b59, b58, b57, b56, b55, b54, b53]
  simp only [b5_at, b22_at, hs.qn, hs.qs, hs.state, qd_at]
  rw [mul_assoc ((H b h).qs n i)]; rfl

theorem raw_at (e : Fin 512) : b77 n.val s (ix4 b h i e) = (H b h).raw n i e := by
  pointwise [b77, b52, b33]
  simp only [cross_at hs, score_at hs, b17_at, hs.vn]
  unfold Head.raw
  rw [hs.lg]

theorem mean_at : b83 n.val s (ix4 b h i 0) = meanS ((H b h).raw n i) := by
  pointwise [b83, b82, b81, b80, b79, b78]
  simp only [raw_at hs]
  exact mean_eq _

theorem dev_at (e : Fin 512) : b85 n.val s (ix4 b h i e) = (H b h).raw n i e - meanS ((H b h).raw n i) := by
  pointwise [b85, b84]
  rw [raw_at hs, mean_at hs]

theorem out_at (e : Fin 512) : b98 n.val s (ix4 b h i e) = (H b h).out n i e := by
  pointwise [b98, b97, b96, b95, b94, b93, b92, b91, b90, b89, b88, b87, b86]
  simp only [dev_at hs]
  rw [mean_eq]; rfl

theorem gain_at (d : Fin 256) (e : Fin 512) : b76 n.val s (ix4 b h d e) = (H b h).gain n d e := by
  pointwise [b76, b75, b74, b73, b72, b71, b70, b69, b68, b67, b66, b65, b34, b33]
  simp only [b11_at, b27_at, b32_at, b17_at, hs.kn, hs.ks, hs.vs, hs.vn, kd_at]
  unfold Head.gain
  rw [hs.lg]
  refine Finset.sum_congr rfl fun x _ => ?_
  rw [mul_assoc ((H b h).kn n x d)]

theorem next_at (d : Fin 256) (e : Fin 512) : b104 n.val s (ix4 b h d e) = (H b h).state (n.val + 1) d e := by
  pointwise [b104, b103, b102, b101]
  rw [gain_at hs, cd_at, hs.state]
  show _ = cdS (H b h).lg * (H b h).state n.val d e + (H b h).gain (Fin.ofNat 8 n.val) d e
  rw [hs.lg, show Fin.ofNat 8 n.val = n from Fin.ext (Nat.mod_eq_of_lt n.isLt)]

/-- A trip keeps holding. -/
theorem Holds.step : Holds (step n.val s) H (n.val + 1) where
  lg := hs.lg
  qn := hs.qn
  kn := hs.kn
  vn := hs.vn
  qs := hs.qs
  ks := hs.ks
  vs := hs.vs
  state b h d e := (congrFun (step_main_v128_11 n.val s) _).trans (next_at hs b h d e)
  rows m b i h e hm := by
    refine (congrFun (step_main_v128_12 n.val s) _).trans ?_
    rw [b110_at]
    by_cases hn : m = n
    · subst hn
      rw [if_pos rfl]; exact out_at hs b h i e
    · rw [if_neg hn]
      exact hs.rows m b i h e (by have : m.val ≠ n.val := fun hc => hn (Fin.ext hc); omega)

end Cert.Retention.Ref

end
-- ==== Proof.ArraysAt.lean ====
module

public import proofs.«01_k».proof.Proof.BlocksAt
public import Idealize.ShloMosaic.Lib.Pointwise

@[expose] public section

set_option maxRecDepth 16384

noncomputable section

namespace Cert.Retention

open Idealize.ShloMosaic Idealize.ShloMosaic.TcCoe Idealize.ShloMosaic.Tactic
open Cert.KernelIdeal Cert.KernelIdeal.Gen
open Idealize.ShloMosaic.Pipeline (Dat)

/-- Head `h` of batch entry `b` of whole argument arrays. -/
def argHead (q k : Vec Ideal S2x1024x10x256 .bf16) (v : Vec Ideal S2x1024x10x512 .bf16) (s : Vec Ideal S2x10x256x512 .f32)
    (b : Fin 2) (h : Fin 10) : Head where
  q n i d := q (ix4 b (tok n i) h d)
  k n i d := k (ix4 b (tok n i) h d)
  v n i d := v (ix4 b (tok n i) h d)
  s d e := s (ix4 b h d e)
  lg := lgS h

variable (m : (ℓ : Loc nD τ sig) → Buf (Elt Ideal) ℓ) (c : Dev nD)

/-- The kernel's heads, of the arguments in its memory. -/
def memHead (b : Fin 2) (h : Fin 10) : Head :=
  argHead (m ((c : Thread nD τ).loc main_arg0)) (m ((c : Thread nD τ).loc main_arg1)) (m ((c : Thread nD τ).loc main_arg2))
    (m ((c : Thread nD τ).loc main_arg3)) b h

/-- The grid point of head `h`. -/
def ptOf (h : Fin 10) : Fin cfg0.N := ⟨h.val, by have : cfg0.N = 10 := N_0; omega⟩

theorem coords_ptOf (h : Fin 10) : grid0.coords (ptOf h) 0 = h :=
  Fin.ext ((by decide +kernel : ∀ h : Fin 10, (grid0.coords (ptOf h) 0).val = h.val) h)

theorem idx0 : ∀ h : Fin 10, win0_0.index (ptOf h) 0 = 0 ∧ win0_0.index (ptOf h) 1 = h.val ∧ win0_0.index (ptOf h) 2 = 0 ∧ win0_0.index (ptOf h) 3 = 0 := by decide +kernel
theorem idx1 : ∀ h : Fin 10, win0_1.index (ptOf h) 0 = 0 ∧ win0_1.index (ptOf h) 1 = h.val ∧ win0_1.index (ptOf h) 2 = 0 ∧ win0_1.index (ptOf h) 3 = 0 := by decide +kernel
theorem idx2 : ∀ h : Fin 10, win0_2.index (ptOf h) 0 = 0 ∧ win0_2.index (ptOf h) 1 = h.val ∧ win0_2.index (ptOf h) 2 = 0 ∧ win0_2.index (ptOf h) 3 = 0 := by decide +kernel
theorem idx3 : ∀ h : Fin 10, win0_3.index (ptOf h) 0 = 0 ∧ win0_3.index (ptOf h) 1 = h.val ∧ win0_3.index (ptOf h) 2 = 0 ∧ win0_3.index (ptOf h) 3 = 0 := by decide +kernel
theorem idx4 : ∀ h : Fin 10, win0_4.index (ptOf h) 0 = 0 ∧ win0_4.index (ptOf h) 1 = 0 ∧ win0_4.index (ptOf h) 2 = h.val := by decide +kernel
theorem idx5 : ∀ h : Fin 10, win0_5.index (ptOf h) 0 = 0 ∧ win0_5.index (ptOf h) 1 = h.val ∧ win0_5.index (ptOf h) 2 = 0 ∧ win0_5.index (ptOf h) 3 = 0 := by decide +kernel
theorem idx6 : ∀ h : Fin 10, win0_6.index (ptOf h) 0 = 0 ∧ win0_6.index (ptOf h) 1 = h.val ∧ win0_6.index (ptOf h) 2 = 0 ∧ win0_6.index (ptOf h) 3 = 0 := by decide +kernel
theorem idx7 : ∀ h : Fin 10, win0_7.index (ptOf h) 0 = h.val ∧ win0_7.index (ptOf h) 1 = 0 ∧ win0_7.index (ptOf h) 2 = 0 := by decide +kernel
theorem idx8 : ∀ h : Fin 10, win0_8.index (ptOf h) 0 = 0 ∧ win0_8.index (ptOf h) 1 = h.val ∧ win0_8.index (ptOf h) 2 = 0 ∧ win0_8.index (ptOf h) 3 = 0 := by decide +kernel
theorem idx9 : ∀ h : Fin 10, win0_9.index (ptOf h) 0 = h.val ∧ win0_9.index (ptOf h) 1 = 0 ∧ win0_9.index (ptOf h) 2 = 0 := by decide +kernel
theorem idx10 : ∀ h : Fin 10, win0_10.index (ptOf h) 0 = 0 ∧ win0_10.index (ptOf h) 1 = h.val ∧ win0_10.index (ptOf h) 2 = 0 ∧ win0_10.index (ptOf h) 3 = 0 := by decide +kernel
theorem idx11 : ∀ h : Fin 10, win0_11.index (ptOf h) 0 = h.val ∧ win0_11.index (ptOf h) 1 = 0 ∧ win0_11.index (ptOf h) 2 = 0 := by decide +kernel

/-- Column `e` of head `h` in the outputs. -/
def col (h : Fin 10) (e : Fin 512) : Fin 5120 := ⟨512 * h.val + e.val, by omega⟩

theorem exists_col (x : Fin 5120) : ∃ h e, x = col h e :=
  ⟨⟨x.val / 512, by omega⟩, ⟨x.val % 512, Nat.mod_lt _ (by decide)⟩, Fin.ext (by simp only [col]; omega)⟩

theorem emb0 (h : Fin 10) (x0 : Fin 2) (x2 : Fin 1024) (x3 : Fin 256) : ((cfg0.win 0).blk (ptOf h)).view.emb (ix4 x0 (0 : Fin 1) x2 x3) = ix4 x0 h x2 x3 := by
  have i := idx0 h
  funext a
  apply Fin.ext
  match a with
  | ⟨0, _⟩ => show win0_0.index (ptOf h) 0 * 2 + 1 * x0.val = x0.val; rw [i.1]; first | omega | simp
  | ⟨1, _⟩ => show win0_0.index (ptOf h) 1 * 1 + 1 * (0 : Fin 1).val = h.val; rw [i.2.1]; first | omega | simp
  | ⟨2, _⟩ => show win0_0.index (ptOf h) 2 * 1024 + 1 * x2.val = x2.val; rw [i.2.2.1]; first | omega | simp
  | ⟨3, _⟩ => show win0_0.index (ptOf h) 3 * 256 + 1 * x3.val = x3.val; rw [i.2.2.2]; first | omega | simp

theorem emb1 (h : Fin 10) (x0 : Fin 2) (x2 : Fin 1024) (x3 : Fin 256) : ((cfg0.win 1).blk (ptOf h)).view.emb (ix4 x0 (0 : Fin 1) x2 x3) = ix4 x0 h x2 x3 := by
  have i := idx1 h
  funext a
  apply Fin.ext
  match a with
  | ⟨0, _⟩ => show win0_1.index (ptOf h) 0 * 2 + 1 * x0.val = x0.val; rw [i.1]; first | omega | simp
  | ⟨1, _⟩ => show win0_1.index (ptOf h) 1 * 1 + 1 * (0 : Fin 1).val = h.val; rw [i.2.1]; first | omega | simp
  | ⟨2, _⟩ => show win0_1.index (ptOf h) 2 * 1024 + 1 * x2.val = x2.val; rw [i.2.2.1]; first | omega | simp
  | ⟨3, _⟩ => show win0_1.index (ptOf h) 3 * 256 + 1 * x3.val = x3.val; rw [i.2.2.2]; first | omega | simp

theorem emb2 (h : Fin 10) (x0 : Fin 2) (x2 : Fin 1024) (x3 : Fin 512) : ((cfg0.win 2).blk (ptOf h)).view.emb (ix4 x0 (0 : Fin 1) x2 x3) = ix4 x0 h x2 x3 := by
  have i := idx2 h
  funext a
  apply Fin.ext
  match a with
  | ⟨0, _⟩ => show win0_2.index (ptOf h) 0 * 2 + 1 * x0.val = x0.val; rw [i.1]; first | omega | simp
  | ⟨1, _⟩ => show win0_2.index (ptOf h) 1 * 1 + 1 * (0 : Fin 1).val = h.val; rw [i.2.1]; first | omega | simp
  | ⟨2, _⟩ => show win0_2.index (ptOf h) 2 * 1024 + 1 * x2.val = x2.val; rw [i.2.2.1]; first | omega | simp
  | ⟨3, _⟩ => show win0_2.index (ptOf h) 3 * 512 + 1 * x3.val = x3.val; rw [i.2.2.2]; first | omega | simp

theorem emb3 (h : Fin 10) (x0 : Fin 2) (x2 : Fin 256) (x3 : Fin 512) : ((cfg0.win 3).blk (ptOf h)).view.emb (ix4 x0 (0 : Fin 1) x2 x3) = ix4 x0 h x2 x3 := by
  have i := idx3 h
  funext a
  apply Fin.ext
  match a with
  | ⟨0, _⟩ => show win0_3.index (ptOf h) 0 * 2 + 1 * x0.val = x0.val; rw [i.1]; first | omega | simp
  | ⟨1, _⟩ => show win0_3.index (ptOf h) 1 * 1 + 1 * (0 : Fin 1).val = h.val; rw [i.2.1]; first | omega | simp
  | ⟨2, _⟩ => show win0_3.index (ptOf h) 2 * 256 + 1 * x2.val = x2.val; rw [i.2.2.1]; first | omega | simp
  | ⟨3, _⟩ => show win0_3.index (ptOf h) 3 * 512 + 1 * x3.val = x3.val; rw [i.2.2.2]; first | omega | simp

theorem emb4 (h : Fin 10) (x0 : Fin 2) (x1 : Fin 1024) (x2 : Fin 512) : ((cfg0.win 4).blk (ptOf h)).view.emb (ix3 x0 x1 x2) = ix3 x0 x1 (col h x2) := by
  have i := idx4 h
  funext a
  apply Fin.ext
  match a with
  | ⟨0, _⟩ => show win0_4.index (ptOf h) 0 * 2 + 1 * x0.val = x0.val; rw [i.1]; first | omega | simp
  | ⟨1, _⟩ => show win0_4.index (ptOf h) 1 * 1024 + 1 * x1.val = x1.val; rw [i.2.1]; first | omega | simp
  | ⟨2, _⟩ => show win0_4.index (ptOf h) 2 * 512 + 1 * x2.val = 512 * h.val + x2.val; rw [i.2.2]; first | omega | simp

theorem emb5 (h : Fin 10) (x0 : Fin 2) (x2 : Fin 256) (x3 : Fin 512) : ((cfg0.win 5).blk (ptOf h)).view.emb (ix4 x0 (0 : Fin 1) x2 x3) = ix4 x0 h x2 x3 := by
  have i := idx5 h
  funext a
  apply Fin.ext
  match a with
  | ⟨0, _⟩ => show win0_5.index (ptOf h) 0 * 2 + 1 * x0.val = x0.val; rw [i.1]; first | omega | simp
  | ⟨1, _⟩ => show win0_5.index (ptOf h) 1 * 1 + 1 * (0 : Fin 1).val = h.val; rw [i.2.1]; first | omega | simp
  | ⟨2, _⟩ => show win0_5.index (ptOf h) 2 * 256 + 1 * x2.val = x2.val; rw [i.2.2.1]; first | omega | simp
  | ⟨3, _⟩ => show win0_5.index (ptOf h) 3 * 512 + 1 * x3.val = x3.val; rw [i.2.2.2]; first | omega | simp

theorem emb6 (h : Fin 10) (x0 : Fin 2) (x2 : Fin 1024) (x3 : Fin 256) : ((cfg0.win 6).blk (ptOf h)).view.emb (ix4 x0 (0 : Fin 1) x2 x3) = ix4 x0 h x2 x3 := by
  have i := idx6 h
  funext a
  apply Fin.ext
  match a with
  | ⟨0, _⟩ => show win0_6.index (ptOf h) 0 * 2 + 1 * x0.val = x0.val; rw [i.1]; first | omega | simp
  | ⟨1, _⟩ => show win0_6.index (ptOf h) 1 * 1 + 1 * (0 : Fin 1).val = h.val; rw [i.2.1]; first | omega | simp
  | ⟨2, _⟩ => show win0_6.index (ptOf h) 2 * 1024 + 1 * x2.val = x2.val; rw [i.2.2.1]; first | omega | simp
  | ⟨3, _⟩ => show win0_6.index (ptOf h) 3 * 256 + 1 * x3.val = x3.val; rw [i.2.2.2]; first | omega | simp

theorem emb7 (h : Fin 10) (x1 : Fin 2) (x2 : Fin 1024) : ((cfg0.win 7).blk (ptOf h)).view.emb (ix3 (0 : Fin 1) x1 x2) = ix3 h x1 x2 := by
  have i := idx7 h
  funext a
  apply Fin.ext
  match a with
  | ⟨0, _⟩ => show win0_7.index (ptOf h) 0 * 1 + 1 * (0 : Fin 1).val = h.val; rw [i.1]; first | omega | simp
  | ⟨1, _⟩ => show win0_7.index (ptOf h) 1 * 2 + 1 * x1.val = x1.val; rw [i.2.1]; first | omega | simp
  | ⟨2, _⟩ => show win0_7.index (ptOf h) 2 * 1024 + 1 * x2.val = x2.val; rw [i.2.2]; first | omega | simp

theorem emb8 (h : Fin 10) (x0 : Fin 2) (x2 : Fin 1024) (x3 : Fin 256) : ((cfg0.win 8).blk (ptOf h)).view.emb (ix4 x0 (0 : Fin 1) x2 x3) = ix4 x0 h x2 x3 := by
  have i := idx8 h
  funext a
  apply Fin.ext
  match a with
  | ⟨0, _⟩ => show win0_8.index (ptOf h) 0 * 2 + 1 * x0.val = x0.val; rw [i.1]; first | omega | simp
  | ⟨1, _⟩ => show win0_8.index (ptOf h) 1 * 1 + 1 * (0 : Fin 1).val = h.val; rw [i.2.1]; first | omega | simp
  | ⟨2, _⟩ => show win0_8.index (ptOf h) 2 * 1024 + 1 * x2.val = x2.val; rw [i.2.2.1]; first | omega | simp
  | ⟨3, _⟩ => show win0_8.index (ptOf h) 3 * 256 + 1 * x3.val = x3.val; rw [i.2.2.2]; first | omega | simp

theorem emb9 (h : Fin 10) (x1 : Fin 2) (x2 : Fin 1024) : ((cfg0.win 9).blk (ptOf h)).view.emb (ix3 (0 : Fin 1) x1 x2) = ix3 h x1 x2 := by
  have i := idx9 h
  funext a
  apply Fin.ext
  match a with
  | ⟨0, _⟩ => show win0_9.index (ptOf h) 0 * 1 + 1 * (0 : Fin 1).val = h.val; rw [i.1]; first | omega | simp
  | ⟨1, _⟩ => show win0_9.index (ptOf h) 1 * 2 + 1 * x1.val = x1.val; rw [i.2.1]; first | omega | simp
  | ⟨2, _⟩ => show win0_9.index (ptOf h) 2 * 1024 + 1 * x2.val = x2.val; rw [i.2.2]; first | omega | simp

theorem emb10 (h : Fin 10) (x0 : Fin 2) (x2 : Fin 1024) (x3 : Fin 512) : ((cfg0.win 10).blk (ptOf h)).view.emb (ix4 x0 (0 : Fin 1) x2 x3) = ix4 x0 h x2 x3 := by
  have i := idx10 h
  funext a
  apply Fin.ext
  match a with
  | ⟨0, _⟩ => show win0_10.index (ptOf h) 0 * 2 + 1 * x0.val = x0.val; rw [i.1]; first | omega | simp
  | ⟨1, _⟩ => show win0_10.index (ptOf h) 1 * 1 + 1 * (0 : Fin 1).val = h.val; rw [i.2.1]; first | omega | simp
  | ⟨2, _⟩ => show win0_10.index (ptOf h) 2 * 1024 + 1 * x2.val = x2.val; rw [i.2.2.1]; first | omega | simp
  | ⟨3, _⟩ => show win0_10.index (ptOf h) 3 * 512 + 1 * x3.val = x3.val; rw [i.2.2.2]; first | omega | simp

theorem emb11 (h : Fin 10) (x1 : Fin 2) (x2 : Fin 1024) : ((cfg0.win 11).blk (ptOf h)).view.emb (ix3 (0 : Fin 1) x1 x2) = ix3 h x1 x2 := by
  have i := idx11 h
  funext a
  apply Fin.ext
  match a with
  | ⟨0, _⟩ => show win0_11.index (ptOf h) 0 * 1 + 1 * (0 : Fin 1).val = h.val; rw [i.1]; first | omega | simp
  | ⟨1, _⟩ => show win0_11.index (ptOf h) 1 * 2 + 1 * x1.val = x1.val; rw [i.2.1]; first | omega | simp
  | ⟨2, _⟩ => show win0_11.index (ptOf h) 2 * 1024 + 1 * x2.val = x2.val; rw [i.2.2]; first | omega | simp

/-- The block of window 0, read back: the head's rows of the argument. -/
theorem iblk0 (h : Fin 10) (b : Fin 2) (s : Fin 1024) (d : Fin 256) :
    (iblk m c 0 (ptOf h) : Vec Ideal S2x1x1024x256 .bf16) (ix4 b 0 s d) = (m ((c : Thread nD τ).loc main_arg0) : Vec Ideal S2x1024x10x256 .bf16) (ix4 b s h d) := by
  unfold iblk
  rw [View.read_apply, cast_eq]
  rw [emb0]
  have hV : (V m c main_v0 : Vec Ideal S2x10x1024x256 .bf16) = transpose S2x10x1024x256 [0, 2, 1, 3] (m ((c : Thread nD τ).loc main_arg0) : Vec Ideal S2x1024x10x256 .bf16) transposes_S2x1024x10x256_S2x10x1024x256_0_2_1_3 := rfl
  refine (congrFun hV _).trans ?_
  pointwise

/-- The block of window 1, read back: the head's rows of the argument. -/
theorem iblk1 (h : Fin 10) (b : Fin 2) (s : Fin 1024) (d : Fin 256) :
    (iblk m c 1 (ptOf h) : Vec Ideal S2x1x1024x256 .bf16) (ix4 b 0 s d) = (m ((c : Thread nD τ).loc main_arg1) : Vec Ideal S2x1024x10x256 .bf16) (ix4 b s h d) := by
  unfold iblk
  rw [View.read_apply, cast_eq]
  rw [emb1]
  have hV : (V m c main_v1 : Vec Ideal S2x10x1024x256 .bf16) = transpose S2x10x1024x256 [0, 2, 1, 3] (m ((c : Thread nD τ).loc main_arg1) : Vec Ideal S2x1024x10x256 .bf16) transposes_S2x1024x10x256_S2x10x1024x256_0_2_1_3 := rfl
  refine (congrFun hV _).trans ?_
  pointwise

/-- The block of window 2, read back: the head's rows of the argument. -/
theorem iblk2 (h : Fin 10) (b : Fin 2) (s : Fin 1024) (d : Fin 512) :
    (iblk m c 2 (ptOf h) : Vec Ideal S2x1x1024x512 .bf16) (ix4 b 0 s d) = (m ((c : Thread nD τ).loc main_arg2) : Vec Ideal S2x1024x10x512 .bf16) (ix4 b s h d) := by
  unfold iblk
  rw [View.read_apply, cast_eq]
  rw [emb2]
  have hV : (V m c main_v2 : Vec Ideal S2x10x1024x512 .bf16) = transpose S2x10x1024x512 [0, 2, 1, 3] (m ((c : Thread nD τ).loc main_arg2) : Vec Ideal S2x1024x10x512 .bf16) transposes_S2x1024x10x512_S2x10x1024x512_0_2_1_3 := rfl
  refine (congrFun hV _).trans ?_
  pointwise

theorem iblk3 (h : Fin 10) (b : Fin 2) (d : Fin 256) (e : Fin 512) :
    (iblk m c 3 (ptOf h) : Vec Ideal S2x1x256x512 .f32) (ix4 b 0 d e) = (m ((c : Thread nD τ).loc main_arg3) : Vec Ideal S2x10x256x512 .f32) (ix4 b h d e) := by
  unfold iblk
  rw [View.read_apply, cast_eq]
  rw [emb3]
  exact congrFun (V_main_arg3 m c) _

/-- The head a point's blocks hold is the head of the arguments. -/
theorem blockHead_eq (h : Fin 10) (b : Fin 2) :
    blockHead (iblk m c 0 (ptOf h)) (iblk m c 1 (ptOf h)) (iblk m c 2 (ptOf h)) (iblk m c 3 (ptOf h)) (lgS (grid0.coords (ptOf h) 0)) b = memHead m c b h := by
  unfold blockHead memHead argHead
  rw [coords_ptOf]
  simp only [iblk0, iblk1, iblk2, iblk3]

variable (b : Fin 2) (n : Fin 8) (j : Fin 128) (h : Fin 10)

/-- The array of the codes of q. -/
theorem arr6 (d : Fin 256) : (dats m 0 c).arrAt 6 cfg0.N (ix4 b h (tok n j) d) = (memHead m c b h).qn n j d := by
  have he := (dats m 0 c).arrAt_emb_eq_flushed 6 (Value.disjoint6) (ptOf h) (flush0_6 _) (ix4 b (0 : Fin 1) (tok n j) d)
  rw [emb6, cast_eq, Value.flushed6_A] at he
  refine he.trans ?_
  rw [← blockHead_eq]
  exact out6_at _ _ _ _ _ _ _ _ _ _ _ _ _ _ _ _ _ _ _ _ _ _ _ _ _ _ _ _ _ _ _ _ _ _ b n j 0 d

/-- The array of the codes of k. -/
theorem arr8 (d : Fin 256) : (dats m 0 c).arrAt 8 cfg0.N (ix4 b h (tok n j) d) = (memHead m c b h).kn n j d := by
  have he := (dats m 0 c).arrAt_emb_eq_flushed 8 (Value.disjoint8) (ptOf h) (flush0_8 _) (ix4 b (0 : Fin 1) (tok n j) d)
  rw [emb8, cast_eq, Value.flushed8_A] at he
  refine he.trans ?_
  rw [← blockHead_eq]
  exact out8_at _ _ _ _ _ _ _ _ _ _ _ _ _ _ _ _ _ _ _ _ _ _ _ _ _ _ _ _ _ _ _ _ _ _ b n j 0 d

/-- The array of the codes of v. -/
theorem arr10 (d : Fin 512) : (dats m 0 c).arrAt 10 cfg0.N (ix4 b h (tok n j) d) = (memHead m c b h).vn n j d := by
  have he := (dats m 0 c).arrAt_emb_eq_flushed 10 (Value.disjoint10) (ptOf h) (flush0_10 _) (ix4 b (0 : Fin 1) (tok n j) d)
  rw [emb10, cast_eq, Value.flushed10_A] at he
  refine he.trans ?_
  rw [← blockHead_eq]
  exact out10_at _ _ _ _ _ _ _ _ _ _ _ _ _ _ _ _ _ _ _ _ _ _ _ _ _ _ _ _ _ _ _ _ _ _ b n j 0 d

/-- The array of the scales of q. -/
theorem arr7  : (dats m 0 c).arrAt 7 cfg0.N (ix3 h b (tok n j)) = (memHead m c b h).qs n j := by
  have he := (dats m 0 c).arrAt_emb_eq_flushed 7 (Value.disjoint7) (ptOf h) (flush0_7 _) (ix3 (0 : Fin 1) b (tok n j))
  rw [emb7, cast_eq, Value.flushed7_A] at he
  refine he.trans ?_
  rw [← blockHead_eq]
  exact out7_at _ _ _ _ _ _ _ _ _ _ _ _ _ _ _ _ _ _ _ _ _ _ _ _ _ _ _ _ _ _ _ _ _ _ b n j 0

/-- The array of the scales of k. -/
theorem arr9  : (dats m 0 c).arrAt 9 cfg0.N (ix3 h b (tok n j)) = (memHead m c b h).ks n j := by
  have he := (dats m 0 c).arrAt_emb_eq_flushed 9 (Value.disjoint9) (ptOf h) (flush0_9 _) (ix3 (0 : Fin 1) b (tok n j))
  rw [emb9, cast_eq, Value.flushed9_A] at he
  refine he.trans ?_
  rw [← blockHead_eq]
  exact out9_at _ _ _ _ _ _ _ _ _ _ _ _ _ _ _ _ _ _ _ _ _ _ _ _ _ _ _ _ _ _ _ _ _ _ b n j 0

/-- The array of the scales of v. -/
theorem arr11  : (dats m 0 c).arrAt 11 cfg0.N (ix3 h b (tok n j)) = (memHead m c b h).vs n j := by
  have he := (dats m 0 c).arrAt_emb_eq_flushed 11 (Value.disjoint11) (ptOf h) (flush0_11 _) (ix3 (0 : Fin 1) b (tok n j))
  rw [emb11, cast_eq, Value.flushed11_A] at he
  refine he.trans ?_
  rw [← blockHead_eq]
  exact out11_at _ _ _ _ _ _ _ _ _ _ _ _ _ _ _ _ _ _ _ _ _ _ _ _ _ _ _ _ _ _ _ _ _ _ b n j 0

/-- The array of the final states. -/
theorem arr5 (d : Fin 256) (e : Fin 512) : (dats m 0 c).arrAt 5 cfg0.N (ix4 b h d e) = (memHead m c b h).state 8 d e := by
  have he := (dats m 0 c).arrAt_emb_eq_flushed 5 (Value.disjoint5) (ptOf h) (flush0_5 _) (ix4 b (0 : Fin 1) d e)
  rw [emb5, cast_eq, Value.flushed5_A] at he
  refine he.trans ?_
  rw [← blockHead_eq]
  exact out5_at _ _ _ _ _ _ _ _ _ _ _ _ _ _ _ _ _ _ _ _ _ _ _ _ _ _ _ _ _ _ _ _ _ _ b 0 d e

/-- The array of the outputs. -/
theorem arr4 (e : Fin 512) : (dats m 0 c).arrAt 4 cfg0.N (ix3 b (tok n j) (col h e)) = (memHead m c b h).out n j e := by
  have he := (dats m 0 c).arrAt_emb_eq_flushed 4 (Value.disjoint4) (ptOf h) (flush0_4 _) (ix3 b (tok n j) e)
  rw [emb4, cast_eq, Value.flushed4_A] at he
  refine he.trans ?_
  rw [← blockHead_eq]
  exact out4_at _ _ _ _ _ _ _ _ _ _ _ _ _ _ _ _ _ _ _ _ _ _ _ _ _ _ _ _ _ _ _ _ _ _ b n j e

end Cert.Retention

end
-- ==== Proof.RefResults.lean ====
/-
  The reference's eight results at an index: what its loop leaves after eight trips, and the codes and scales it stores.
-/
module

public import proofs.«01_k».proof.Proof.Gen.ReferenceIdeal.Step
public import proofs.«01_k».proof.Proof.RefStep
public import proofs.«01_k».proof.Proof.LoopRun
public import proofs.«01_k».proof.Proof.ArraysAt
public import Idealize.ShloMosaic.Lib.Pointwise

@[expose] public section

set_option maxRecDepth 16384

noncomputable section

namespace Cert.Retention.Ref

open Idealize.ShloMosaic Idealize.ShloMosaic.TcCoe Idealize.ShloMosaic.Tactic
open Idealize.SL.Sem
open Cert.ReferenceIdeal Cert.ReferenceIdeal.Gen Cert.ReferenceIdeal.Step Cert.Retention

section
variable (q k : FVec Ideal S2x1024x10x256 .bf16) (v : FVec Ideal S2x1024x10x512 .bf16) (s : FVec Ideal S2x10x256x512 .f32)

theorem chunk_q (n : Fin 8) (b : Fin 2) (h : Fin 10) (i : Fin 128) (d : Fin 256) :
    A_main_v116 (F := Ideal) q k v (ix5 n b h i d) = (argHead q k v s b h).qn n i d :=
  (chunk256_at _ n b h i d).trans ((congrFun (code_q q k v) _).trans (hCode256_at q b (tok n i) h d))
theorem chunk_k (n : Fin 8) (b : Fin 2) (h : Fin 10) (i : Fin 128) (d : Fin 256) :
    A_main_v118 (F := Ideal) q k v (ix5 n b h i d) = (argHead q k v s b h).kn n i d :=
  (chunk256_at _ n b h i d).trans ((congrFun (code_k q k v) _).trans (hCode256_at k b (tok n i) h d))
theorem chunk_v (n : Fin 8) (b : Fin 2) (h : Fin 10) (i : Fin 128) (d : Fin 512) :
    A_main_v120 (F := Ideal) q k v (ix5 n b h i d) = (argHead q k v s b h).vn n i d :=
  (chunk512_at _ n b h i d).trans ((congrFun (code_v q k v) _).trans (hCode512_at v b (tok n i) h d))
theorem chunks_q (n : Fin 8) (b : Fin 2) (h : Fin 10) (i : Fin 128) :
    A_main_v122 (F := Ideal) q k v (ix4 n b h i) = (argHead q k v s b h).qs n i :=
  (chunkS_at _ n b h i).trans ((congrFun (scale_q q k v) _).trans ((hScale_at _ _).trans (congrArg scaleS (hAmax256_at q b (tok n i) h))))
theorem chunks_k (n : Fin 8) (b : Fin 2) (h : Fin 10) (i : Fin 128) :
    A_main_v124 (F := Ideal) q k v (ix4 n b h i) = (argHead q k v s b h).ks n i :=
  (chunkS_at _ n b h i).trans ((congrFun (scale_k q k v) _).trans ((hScale_at _ _).trans (congrArg scaleS (hAmax256_at k b (tok n i) h))))
theorem chunks_v (n : Fin 8) (b : Fin 2) (h : Fin 10) (i : Fin 128) :
    A_main_v126 (F := Ideal) q k v (ix4 n b h i) = (argHead q k v s b h).vs n i :=
  (chunkS_at _ n b h i).trans ((congrFun (scale_v q k v) _).trans ((hScale_at _ _).trans (congrArg scaleS (hAmax512_at v b (tok n i) h))))

/-- The loop's first state holds the heads of the arguments. -/
theorem init_holds : Holds (init s q k v) (argHead q k v s) 0 where
  lg _ _ := rfl
  qn := chunk_q q k v s
  kn := chunk_k q k v s
  vn := chunk_v q k v s
  qs := chunks_q q k v s
  ks := chunks_k q k v s
  vs := chunks_v q k v s
  state _ _ _ _ := rfl
  rows _ _ _ _ _ hm := absurd hm (Nat.not_lt_zero _)

/-- The states of the loop. -/
def iter : ℕ → State Ideal
  | 0 => init s q k v
  | n + 1 => step n (iter n)

theorem iter_holds : ∀ n, n ≤ 8 → Holds (iter q k v s n) (argHead q k v s) n
  | 0, _ => init_holds q k v s
  | n + 1, hn => (iter_holds n (by omega)).step (n := ⟨n, by omega⟩)

/-- The outputs, read. -/
theorem ys_at (x : State Ideal) (b : Fin 2) (n : Fin 8) (i : Fin 128) (h : Fin 10) (e : Fin 512) :
    R_main_v130 x (ix3 b (tok n i) (col h e)) = x.main_v128_12 (ix5 n b i h e) := by
  pointwise [R_main_v130]
  congr 1
  have hn := n.isLt
  have hi := i.isLt
  have hh := h.isLt
  have he := e.isLt
  congr 1 <;> exact Fin.ext (by simp only [tok, col]; omega)
end

end Cert.Retention.Ref

end
-- ==== Proof.Equation.lean ====
/-
  Each of the eight arrays the kernel returns is the array the reference returns.

  The reference's loop is run on the kernel's own arguments here; the certificate supplies that the two programs start from
  equal arguments. Every equality is read at an index: both sides are the same field of the same head.
-/
module

public import proofs.«01_k».proof.Proof.RefResults

@[expose] public section

set_option maxRecDepth 16384

noncomputable section

namespace Cert.Retention

open Idealize.ShloMosaic Idealize.ShloMosaic.TcCoe Idealize.ShloMosaic.Tactic
open Cert.KernelIdeal Cert.KernelIdeal.Gen
open Idealize.ShloMosaic.Pipeline (Dat)

/-- Two arrays of rank four equal at every quadruple of indices are equal. -/
theorem ext4 {a b c d : ℕ} {α : Type} {f g : (⟨4, ![a, b, c, d]⟩ : Shape).Idx → α}
    (H : ∀ i j k l, f (ix4 i j k l) = g (ix4 i j k l)) : f = g := by
  funext x
  rw [eq_ix4 x]
  exact H _ _ _ _

/-- Two arrays of rank three equal at every triple of indices are equal. -/
theorem ext3 {a b c : ℕ} {α : Type} {f g : (⟨3, ![a, b, c]⟩ : Shape).Idx → α}
    (H : ∀ i j k, f (ix3 i j k) = g (ix3 i j k)) : f = g := by
  funext x
  rw [eq_ix3 x]
  exact H _ _ _

variable (m : (ℓ : Loc nD τ sig) → Buf (Elt Ideal) ℓ) (c : Dev nD)

/-- What the reference's loop leaves after its eight trips, started on the kernel's arguments. -/
def last : Cert.ReferenceIdeal.Step.State Ideal :=
  Ref.iter (m ((c : Thread nD τ).loc main_arg0)) (m ((c : Thread nD τ).loc main_arg1)) (m ((c : Thread nD τ).loc main_arg2))
    (m ((c : Thread nD τ).loc main_arg3)) 8

theorem last_holds : Ref.Holds (last m c) (memHead m c) 8 := Ref.iter_holds _ _ _ _ 8 le_rfl

/-- The outputs. -/
theorem result0 : Cert.ReferenceIdeal.Step.R_main_v130 (last m c) = (dats m 0 c).arrAt 4 cfg0.N := by
  refine ext3 (a := 2) (b := 1024) (c := 5120) fun b t x => ?_
  obtain ⟨n, i, rfl⟩ := exists_tok t
  obtain ⟨h, e, rfl⟩ := exists_col x
  exact (Ref.ys_at (last m c) b n i h e).trans (((last_holds m c).rows n b i h e n.isLt).trans (arr4 m c b n i h e).symm)

/-- The final state. -/
theorem result1 : (last m c).main_v128_11 = (dats m 0 c).arrAt 5 cfg0.N := by
  refine ext4 (a := 2) (b := 10) (c := 256) (d := 512) fun b h d e => ?_
  exact ((last_holds m c).state b h d e).trans (arr5 m c b h d e).symm

/-- The codes of the queries. -/
theorem result2 (x : Cert.ReferenceIdeal.Step.State Ideal) :
    Cert.ReferenceIdeal.Step.R_main_v154 x (m ((c : Thread nD τ).loc main_arg0)) = (dats m 0 c).arrAt 6 cfg0.N := by
  refine (Ref.store_q (m ((c : Thread nD τ).loc main_arg0)) x).trans (ext4 (a := 2) (b := 10) (c := 1024) (d := 256) fun b h t d => ?_)
  obtain ⟨n, i, rfl⟩ := exists_tok t
  exact (Ref.hStore256_at _ b (tok n i) h d).trans (arr6 m c b n i h d).symm

/-- The scales of the queries. -/
theorem result3 (x : Cert.ReferenceIdeal.Step.State Ideal) :
    Cert.ReferenceIdeal.Step.R_main_v155 x (m ((c : Thread nD τ).loc main_arg0)) = (dats m 0 c).arrAt 7 cfg0.N := by
  refine (Ref.stores_q (m ((c : Thread nD τ).loc main_arg0)) x).trans (ext3 (a := 10) (b := 2) (c := 1024) fun h b t => ?_)
  obtain ⟨n, i, rfl⟩ := exists_tok t
  exact (Ref.hStoreS_at _ b (tok n i) h).trans ((congrArg scaleS (Ref.hAmax256_at _ b (tok n i) h)).trans (arr7 m c b n i h).symm)

/-- The codes of the keys. -/
theorem result4 (x : Cert.ReferenceIdeal.Step.State Ideal) :
    Cert.ReferenceIdeal.Step.R_main_v179 x (m ((c : Thread nD τ).loc main_arg1)) = (dats m 0 c).arrAt 8 cfg0.N := by
  refine (Ref.store_k (m ((c : Thread nD τ).loc main_arg1)) x).trans (ext4 (a := 2) (b := 10) (c := 1024) (d := 256) fun b h t d => ?_)
  obtain ⟨n, i, rfl⟩ := exists_tok t
  exact (Ref.hStore256_at _ b (tok n i) h d).trans (arr8 m c b n i h d).symm

/-- The scales of the keys. -/
theorem result5 (x : Cert.ReferenceIdeal.Step.State Ideal) :
    Cert.ReferenceIdeal.Step.R_main_v180 x (m ((c : Thread nD τ).loc main_arg1)) = (dats m 0 c).arrAt 9 cfg0.N := by
  refine (Ref.stores_k (m ((c : Thread nD τ).loc main_arg1)) x).trans (ext3 (a := 10) (b := 2) (c := 1024) fun h b t => ?_)
  obtain ⟨n, i, rfl⟩ := exists_tok t
  exact (Ref.hStoreS_at _ b (tok n i) h).trans ((congrArg scaleS (Ref.hAmax256_at _ b (tok n i) h)).trans (arr9 m c b n i h).symm)

/-- The codes of the values. -/
theorem result6 (x : Cert.ReferenceIdeal.Step.State Ideal) :
    Cert.ReferenceIdeal.Step.R_main_v204 x (m ((c : Thread nD τ).loc main_arg2)) = (dats m 0 c).arrAt 10 cfg0.N := by
  refine (Ref.store_v (m ((c : Thread nD τ).loc main_arg2)) x).trans (ext4 (a := 2) (b := 10) (c := 1024) (d := 512) fun b h t d => ?_)
  obtain ⟨n, i, rfl⟩ := exists_tok t
  exact (Ref.hStore512_at _ b (tok n i) h d).trans (arr10 m c b n i h d).symm

/-- The scales of the values. -/
theorem result7 (x : Cert.ReferenceIdeal.Step.State Ideal) :
    Cert.ReferenceIdeal.Step.R_main_v205 x (m ((c : Thread nD τ).loc main_arg2)) = (dats m 0 c).arrAt 11 cfg0.N := by
  refine (Ref.stores_v (m ((c : Thread nD τ).loc main_arg2)) x).trans (ext3 (a := 10) (b := 2) (c := 1024) fun h b t => ?_)
  obtain ⟨n, i, rfl⟩ := exists_tok t
  exact (Ref.hStoreS_at _ b (tok n i) h).trans ((congrArg scaleS (Ref.hAmax512_at _ b (tok n i) h)).trans (arr11 m c b n i h).symm)

end Cert.Retention

end
-- ==== Proof.lean ====
/-
  The certificate of the chunked retention kernel.

  * The kernel, its ideal program and the reference terminate, leave their arguments as they were and their semaphores at zero.
  * The ideal program is the kernel's own text: no operation was rewritten.
  * Over the extended reals the kernel's eight arrays are the reference's: both are, at every index, the same field of the same head
    (`Proof/Spec.lean` states a head's codes, scales, states and outputs as scalar formulas; `Proof/ArraysAt.lean` reads the kernel
    so, `Proof/RefResults.lean` the reference, `Proof/Equation.lean` puts the two together).
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.LoopRun
public import proofs.«01_k».proof.Proof.Equation
public import Idealize.ShloMosaic.Lib.Quiescent

@[expose] public section

noncomputable section

namespace Cert.Proof

open Idealize.ShloMosaic Idealize.ShloMosaic.TcCoe Idealize.SL.Sem

/-- The reference terminates and leaves its arguments as they were; it has no semaphore. -/
theorem frame_reference : Cert.quiescent_ReferenceIdeal := by
  intro m ρ _
  exact (θ_run Cert.ReferenceIdeal.defs _ _).mono
    (fun r h => ⟨fun c => (h c).2.2.2.2.2.2.2.2, sem_eq_zero_of_no_sems (by decide) r.2⟩)
    (Cert.ReferenceIdeal.StepRun.run_iter m ρ
      (fun c => Cert.Retention.Ref.iter
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3)))
      (fun _ => rfl) (fun _ _ => rfl))

/-- From equal arguments the kernel and the reference return equal arrays. -/
theorem equal_results : Cert.algebraic_KernelIdeal_ReferenceIdeal := by
  intro m ρ m' ρ' _ hargs
  refine ⟨fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m ρ, ?_⟩
  refine (θ_run Cert.ReferenceIdeal.defs _ _).mono (fun r h c => ?_)
    (Cert.ReferenceIdeal.StepRun.run_iter m' ρ'
      (fun c => Cert.Retention.Ref.iter
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (fun c => ?_) (fun _ _ => rfl))
  · obtain ⟨a0, a1, a2, a3⟩ := hargs c
    obtain ⟨h0, h1, h2, h3, h4, h5, h6, h7, kept⟩ := h c
    refine ⟨h0.trans (Cert.Retention.result0 m c), h1.trans (Cert.Retention.result1 m c), ?_, ?_, ?_, ?_, ?_, ?_, kept⟩
    · rw [h2, a0]; exact Cert.Retention.result2 m c _
    · rw [h3, a0]; exact Cert.Retention.result3 m c _
    · rw [h4, a1]; exact Cert.Retention.result4 m c _
    · rw [h5, a1]; exact Cert.Retention.result5 m c _
    · rw [h6, a2]; exact Cert.Retention.result6 m c _
    · rw [h7, a2]; exact Cert.Retention.result7 m c _
  · obtain ⟨a0, a1, a2, a3⟩ := hargs c
    unfold Cert.ReferenceIdeal.StepRun.initState
    rw [a0, a1, a2, a3]
    rfl

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, equal_results⟩

end Cert.Proof

end
